-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 512, 1024]⟩ ⟨3, ![128, 512, 1024]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S2048x512 : Shape := ⟨2, ![2048, 512]⟩
abbrev S512x128 : Shape := ⟨2, ![512, 128]⟩
abbrev S2048x1 : Shape := ⟨2, ![2048, 1]⟩
abbrev S8x512x1024 : Shape := ⟨3, ![8, 512, 1024]⟩
abbrev S_ : Shape := ⟨0, ![]⟩

class Facts : Prop where
  bcast_S_S2048x1 : S_.BroadcastsInDim S2048x1 (![] : Fin 0 → Fin S2048x1.rank)

variable [Facts]

def fn {F : FTy → Type} [FloatOps F] (main_arg0 : FVec F S2048x512 .bf16) (main_arg1 : FVec F S512x128 .bf16) (main_arg2 : IVec S2048x1 32) (main_arg3 : FVec F S8x512x1024 .bf16) : IVec S2048x1 1 :=
  let main_c : IVec S_ 32 := constantI S_ 32 0#32
  let main_v0 : IVec S2048x1 32 := broadcastInDim S2048x1 ![] bcast_S_S2048x1 main_c
  let main_v1 : IVec S2048x1 1 := cmpi .sge main_arg2 main_v0
  let main_c_0 : IVec S_ 32 := constantI S_ 32 128#32
  let main_v2 : IVec S2048x1 32 := broadcastInDim S2048x1 ![] bcast_S_S2048x1 main_c_0
  let main_v3 : IVec S2048x1 1 := cmpi .slt main_arg2 main_v2
  let main_v4 : IVec S2048x1 1 := andi main_v1 main_v3
  main_v4
-- ==== Pre_routed_ReferenceIdeal.lean ====
abbrev S2048x512 : Shape := ⟨2, ![2048, 512]⟩
abbrev S512x128 : Shape := ⟨2, ![512, 128]⟩
abbrev S2048x1 : Shape := ⟨2, ![2048, 1]⟩
abbrev S128x512x1024 : Shape := ⟨3, ![128, 512, 1024]⟩
abbrev S_ : Shape := ⟨0, ![]⟩

class Facts : Prop where
  bcast_S_S2048x1 : S_.BroadcastsInDim S2048x1 (![] : Fin 0 → Fin S2048x1.rank)

variable [Facts]

def fn {F : FTy → Type} [FloatOps F] (main_arg0 : FVec F S2048x512 .bf16) (main_arg1 : FVec F S512x128 .bf16) (main_arg2 : IVec S2048x1 32) (main_arg3 : FVec F S128x512x1024 .bf16) : IVec S2048x1 1 :=
  let main_c : IVec S_ 32 := constantI S_ 32 0#32
  let main_v0 : IVec S2048x1 32 := broadcastInDim S2048x1 ![] bcast_S_S2048x1 main_c
  let main_v1 : IVec S2048x1 1 := cmpi .sge main_arg2 main_v0
  let main_c_0 : IVec S_ 32 := constantI S_ 32 128#32
  let main_v2 : IVec S2048x1 32 := broadcastInDim S2048x1 ![] bcast_S_S2048x1 main_c_0
  let main_v3 : IVec S2048x1 1 := cmpi .slt main_arg2 main_v2
  let main_v4 : IVec S2048x1 1 := andi main_v1 main_v3
  main_v4
-- ==== Kernel.lean ====
abbrev S2048x512 : Shape := ⟨2, ![2048, 512]⟩
abbrev S512x128 : Shape := ⟨2, ![512, 128]⟩
abbrev S2048x1 : Shape := ⟨2, ![2048, 1]⟩
abbrev S8x512x1024 : Shape := ⟨3, ![8, 512, 1024]⟩
abbrev S2048x1024 : Shape := ⟨2, ![2048, 1024]⟩
abbrev S15 : Shape := ⟨1, ![15]⟩
abbrev S_ : Shape := ⟨0, ![]⟩
abbrev S2048x128 : Shape := ⟨2, ![2048, 128]⟩
abbrev S128x128 : Shape := ⟨2, ![128, 128]⟩
abbrev S1x128 : Shape := ⟨2, ![1, 128]⟩
abbrev S128 : Shape := ⟨1, ![128]⟩
abbrev S128x1 : Shape := ⟨2, ![128, 1]⟩
abbrev S128x512 : Shape := ⟨2, ![128, 512]⟩
abbrev S16x512 : Shape := ⟨2, ![16, 512]⟩
abbrev S1x512x1024 : Shape := ⟨3, ![1, 512, 1024]⟩
abbrev S512x1024 : Shape := ⟨2, ![512, 1024]⟩
abbrev S16x1024 : Shape := ⟨2, ![16, 1024]⟩
abbrev S1 : Shape := ⟨1, ![1]⟩

abbrev nBuf : Space → Nat
  | .hbm => 5
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S512x128, .bf16⟩
  | .hbm, ⟨2, _⟩ => ⟨S2048x1, .i32⟩
  | .hbm, ⟨3, _⟩ => ⟨S8x512x1024, .bf16⟩
  | .hbm, ⟨4, _⟩ => ⟨S2048x1024, .bf16⟩
  | .local _ .vmem, ⟨0, _⟩ => ⟨S2048x512, .bf16⟩
  | .local _ .vmem, ⟨1, _⟩ => ⟨S2048x1, .i32⟩
  | .local _ .vmem, ⟨2, _⟩ => ⟨S8x512x1024, .bf16⟩
  | .local _ .vmem, ⟨3, _⟩ => ⟨S2048x1024, .bf16⟩
  | .local _ .vmem, ⟨4, _⟩ => ⟨S2048x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  (ofTc nBuf bufTy 1 64 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_85 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c3_i32_49 : BitVec 32 := 3#32
  let c14_i32_46 : BitVec 32 := 14#32
  let v62 : BitVec 1 := Scalar.cmpi .eq v35 c14_i32_46
  let c7_i32_47 : BitVec 32 := 7#32
  let c13_i32_44 : BitVec 32 := 13#32
  let v60 : BitVec 1 := Scalar.cmpi .eq v35 c13_i32_44
  let c11_i32_45 : BitVec 32 := 11#32
  let c12_i32_42 : BitVec 32 := 12#32
  let v58 : BitVec 1 := Scalar.cmpi .eq v35 c12_i32_42
  let c15_i32_43 : BitVec 32 := 15#32
  let c11_i32_40 : BitVec 32 := 11#32
  let v56 : BitVec 1 := Scalar.cmpi .eq v35 c11_i32_40
  let c14_i32_41 : BitVec 32 := 14#32
  let c10_i32_38 : BitVec 32 := 10#32
  let v54 : BitVec 1 := Scalar.cmpi .eq v35 c10_i32_38
  let c10_i32_39 : BitVec 32 := 10#32
  let c9_i32_36 : BitVec 32 := 9#32
  let v52 : BitVec 1 := Scalar.cmpi .eq v35 c9_i32_36
  let c6_i32_37 : BitVec 32 := 6#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c1_i32_33 : BitVec 32 := 1#32
  let c6_i32_30 : BitVec 32 := 6#32
  let v46 : BitVec 1 := Scalar.cmpi .eq v35 c6_i32_30
  let c5_i32_31 : BitVec 32 := 5#32
  let c5_i32_28 : BitVec 32 := 5#32
  let v44 : BitVec 1 := Scalar.cmpi .eq v35 c5_i32_28
  let c9_i32_29 : BitVec 32 := 9#32
  let c4_i32_26 : BitVec 32 := 4#32
  let v42 : BitVec 1 := Scalar.cmpi .eq v35 c4_i32_26
  let c13_i32_27 : BitVec 32 := 13#32
  let c3_i32_24 : BitVec 32 := 3#32
  let v40 : BitVec 1 := Scalar.cmpi .eq v35 c3_i32_24
  let c12_i32_25 : BitVec 32 := 12#32
  let c2_i32_22 : BitVec 32 := 2#32
  let v38 : BitVec 1 := Scalar.cmpi .eq v35 c2_i32_22
  let c8_i32_23 : BitVec 32 := 8#32
  let c1_i32_19 : BitVec 32 := 1#32
  let v36 : BitVec 1 := Scalar.cmpi .eq v35 c1_i32_19
  let c4_i32_20 : BitVec 32 := 4#32
  let c0_i32_21 : BitVec 32 := 0#32
  let v37 : BitVec 32 := Scalar.select v36 c4_i32_20 c0_i32_21
  let v39 : BitVec 32 := Scalar.select v38 c8_i32_23 v37
  let v41 : BitVec 32 := Scalar.select v40 c12_i32_25 v39
  let v43 : BitVec 32 := Scalar.select v42 c13_i32_27 v41
  let v45 : BitVec 32 := Scalar.select v44 c9_i32_29 v43
  let v47 : BitVec 32 := Scalar.select v46 c5_i32_31 v45
  let v49 : BitVec 32 := Scalar.select v48 c1_i32_33 v47
  let v51 : BitVec 32 := Scalar.select v50 c2_i32_35 v49
  let v53 : BitVec 32 := Scalar.select v52 c6_i32_37 v51
  let v55 : BitVec 32 := Scalar.select v54 c10_i32_39 v53
  let v57 : BitVec 32 := Scalar.select v56 c14_i32_41 v55
  let v59 : BitVec 32 := Scalar.select v58 c15_i32_43 v57
  let v61 : BitVec 32 := Scalar.select v60 c11_i32_45 v59
  let v63 : BitVec 32 := Scalar.select v62 c7_i32_47 v61
  let v65 : BitVec 32 := Scalar.select v64 c3_i32_49 v63
  let c1_i32_84 : BitVec 32 := 1#32
  let v99 : BitVec 32 := Scalar.muli v65 c1_i32_84
  let v100 : BitVec 32 := Scalar.addi c0_i32_85 v99
  v100.toNat
def k0_dev2 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c3_i32_82 : BitVec 32 := 3#32
  let c14_i32_79 : BitVec 32 := 14#32
  let v94 : BitVec 1 := Scalar.cmpi .eq v67 c14_i32_79
  let c7_i32_80 : BitVec 32 := 7#32
  let c13_i32_77 : BitVec 32 := 13#32
  let v92 : BitVec 1 := Scalar.cmpi .eq v67 c13_i32_77
  let c11_i32_78 : BitVec 32 := 11#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c1_i32_66 : BitVec 32 := 1#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c9_i32_62 : BitVec 32 := 9#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c13_i32_60 v73
  let v77 : BitVec 32 := Scalar.select v76 c9_i32_62 v75
  let v79 : BitVec 32 := Scalar.select v78 c5_i32_64 v77
  let v81 : BitVec 32 := Scalar.select v80 c1_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c15_i32_76 v89
  let v93 : BitVec 32 := Scalar.select v92 c11_i32_78 v91
  let v95 : BitVec 32 := Scalar.select v94 c7_i32_80 v93
  let v97 : BitVec 32 := Scalar.select v96 c3_i32_82 v95
  let c1_i32_87 : BitVec 32 := 1#32
  let v101 : BitVec 32 := Scalar.muli v97 c1_i32_87
  let v102 : BitVec 32 := Scalar.addi c0_i32_88 v101
  v102.toNat
def k0_off1 (d0 : Dev nD) (c0_i32_212 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c128_i32_211 : BitVec 32 := 128#32
  let v459 : BitVec 32 := Scalar.muli v32 c128_i32_211
  let v460 : BitVec 32 := Scalar.addi v459 c0_i32_212
  let v461 : Index := Scalar.indexCast v460
  let c0_213 : Index := 0#32
  ![v461.toNat, 0]
def k0_off2 (d0 : Dev nD) (c0_i32_250 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let v542 : BitVec 32 := Scalar.subi v32 c0_i32_250
  let c16_i32_251 : BitVec 32 := 16#32
  let v543 : BitVec 32 := Scalar.addi v542 c16_i32_251
  let c16_i32_252 : BitVec 32 := 16#32
  let v544 : BitVec 32 := Scalar.remsi v543 c16_i32_252
  let c128_i32_253 : BitVec 32 := 128#32
  let v545 : BitVec 32 := Scalar.muli v544 c128_i32_253
  let c0_i32_261 : BitVec 32 := 0#32
  ![v545.toNat, 0]
def k0_dev3 (d0 : Dev nD) : Nat :=
  let c0_i32_260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c3_i32_82 : BitVec 32 := 3#32
  let c14_i32_79 : BitVec 32 := 14#32
  let v94 : BitVec 1 := Scalar.cmpi .eq v67 c14_i32_79
  let c7_i32_80 : BitVec 32 := 7#32
  let c13_i32_77 : BitVec 32 := 13#32
  let v92 : BitVec 1 := Scalar.cmpi .eq v67 c13_i32_77
  let c11_i32_78 : BitVec 32 := 11#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c1_i32_66 : BitVec 32 := 1#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c9_i32_62 : BitVec 32 := 9#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c13_i32_60 v73
  let v77 : BitVec 32 := Scalar.select v76 c9_i32_62 v75
  let v79 : BitVec 32 := Scalar.select v78 c5_i32_64 v77
  let v81 : BitVec 32 := Scalar.select v80 c1_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c15_i32_76 v89
  let v93 : BitVec 32 := Scalar.select v92 c11_i32_78 v91
  let v95 : BitVec 32 := Scalar.select v94 c7_i32_80 v93
  let v97 : BitVec 32 := Scalar.select v96 c3_i32_82 v95
  let c1_i32_259 : BitVec 32 := 1#32
  let v549 : BitVec 32 := Scalar.muli v97 c1_i32_259
  let v550 : BitVec 32 := Scalar.addi c0_i32_260 v549
  v550.toNat
def k0_off3 (d0 : Dev nD) (c0_i32_254 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let v546 : BitVec 32 := Scalar.addi v32 c0_i32_254
  let c16_i32_255 : BitVec 32 := 16#32
  let v547 : BitVec 32 := Scalar.remsi v546 c16_i32_255
  let c128_i32_256 : BitVec 32 := 128#32
  let v548 : BitVec 32 := Scalar.muli v547 c128_i32_256
  let c512_i32 : BitVec 32 := 512#32
  ![v548.toNat, 512]
def k0_dev4 (d0 : Dev nD) : Nat :=
  let c0_i32_266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c3_i32_49 : BitVec 32 := 3#32
  let c14_i32_46 : BitVec 32 := 14#32
  let v62 : BitVec 1 := Scalar.cmpi .eq v35 c14_i32_46
  let c7_i32_47 : BitVec 32 := 7#32
  let c13_i32_44 : BitVec 32 := 13#32
  let v60 : BitVec 1 := Scalar.cmpi .eq v35 c13_i32_44
  let c11_i32_45 : BitVec 32 := 11#32
  let c12_i32_42 : BitVec 32 := 12#32
  let v58 : BitVec 1 := Scalar.cmpi .eq v35 c12_i32_42
  let c15_i32_43 : BitVec 32 := 15#32
  let c11_i32_40 : BitVec 32 := 11#32
  let v56 : BitVec 1 := Scalar.cmpi .eq v35 c11_i32_40
  let c14_i32_41 : BitVec 32 := 14#32
  let c10_i32_38 : BitVec 32 := 10#32
  let v54 : BitVec 1 := Scalar.cmpi .eq v35 c10_i32_38
  let c10_i32_39 : BitVec 32 := 10#32
  let c9_i32_36 : BitVec 32 := 9#32
  let v52 : BitVec 1 := Scalar.cmpi .eq v35 c9_i32_36
  let c6_i32_37 : BitVec 32 := 6#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c1_i32_33 : BitVec 32 := 1#32
  let c6_i32_30 : BitVec 32 := 6#32
  let v46 : BitVec 1 := Scalar.cmpi .eq v35 c6_i32_30
  let c5_i32_31 : BitVec 32 := 5#32
  let c5_i32_28 : BitVec 32 := 5#32
  let v44 : BitVec 1 := Scalar.cmpi .eq v35 c5_i32_28
  let c9_i32_29 : BitVec 32 := 9#32
  let c4_i32_26 : BitVec 32 := 4#32
  let v42 : BitVec 1 := Scalar.cmpi .eq v35 c4_i32_26
  let c13_i32_27 : BitVec 32 := 13#32
  let c3_i32_24 : BitVec 32 := 3#32
  let v40 : BitVec 1 := Scalar.cmpi .eq v35 c3_i32_24
  let c12_i32_25 : BitVec 32 := 12#32
  let c2_i32_22 : BitVec 32 := 2#32
  let v38 : BitVec 1 := Scalar.cmpi .eq v35 c2_i32_22
  let c8_i32_23 : BitVec 32 := 8#32
  let c1_i32_19 : BitVec 32 := 1#32
  let v36 : BitVec 1 := Scalar.cmpi .eq v35 c1_i32_19
  let c4_i32_20 : BitVec 32 := 4#32
  let c0_i32_21 : BitVec 32 := 0#32
  let v37 : BitVec 32 := Scalar.select v36 c4_i32_20 c0_i32_21
  let v39 : BitVec 32 := Scalar.select v38 c8_i32_23 v37
  let v41 : BitVec 32 := Scalar.select v40 c12_i32_25 v39
  let v43 : BitVec 32 := Scalar.select v42 c13_i32_27 v41
  let v45 : BitVec 32 := Scalar.select v44 c9_i32_29 v43
  let v47 : BitVec 32 := Scalar.select v46 c5_i32_31 v45
  let v49 : BitVec 32 := Scalar.select v48 c1_i32_33 v47
  let v51 : BitVec 32 := Scalar.select v50 c2_i32_35 v49
  let v53 : BitVec 32 := Scalar.select v52 c6_i32_37 v51
  let v55 : BitVec 32 := Scalar.select v54 c10_i32_39 v53
  let v57 : BitVec 32 := Scalar.select v56 c14_i32_41 v55
  let v59 : BitVec 32 := Scalar.select v58 c15_i32_43 v57
  let v61 : BitVec 32 := Scalar.select v60 c11_i32_45 v59
  let v63 : BitVec 32 := Scalar.select v62 c7_i32_47 v61
  let v65 : BitVec 32 := Scalar.select v64 c3_i32_49 v63
  let c1_i32_265 : BitVec 32 := 1#32
  let v557 : BitVec 32 := Scalar.muli v65 c1_i32_265
  let v558 : BitVec 32 := Scalar.addi c0_i32_266 v557
  v558.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c128_i32_268 : BitVec 32 := 128#32
  let v565 : BitVec 32 := Scalar.muli v32 c128_i32_268
  let v566 : Index := Scalar.indexCast v565
  let c0_269 : Index := 0#32
  ![v566.toNat, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c128_i32_268 : BitVec 32 := 128#32
  let v565 : BitVec 32 := Scalar.muli v32 c128_i32_268
  let v571 : Index := Scalar.indexCast v565
  let c512 : Index := 512#32
  ![v571.toNat, 512]
def k0_dev5 (d0 : Dev nD) : Nat :=
  let c0_i32_308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c3_i32_82 : BitVec 32 := 3#32
  let c14_i32_79 : BitVec 32 := 14#32
  let v94 : BitVec 1 := Scalar.cmpi .eq v67 c14_i32_79
  let c7_i32_80 : BitVec 32 := 7#32
  let c13_i32_77 : BitVec 32 := 13#32
  let v92 : BitVec 1 := Scalar.cmpi .eq v67 c13_i32_77
  let c11_i32_78 : BitVec 32 := 11#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c1_i32_66 : BitVec 32 := 1#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c9_i32_62 : BitVec 32 := 9#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c13_i32_60 v73
  let v77 : BitVec 32 := Scalar.select v76 c9_i32_62 v75
  let v79 : BitVec 32 := Scalar.select v78 c5_i32_64 v77
  let v81 : BitVec 32 := Scalar.select v80 c1_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c15_i32_76 v89
  let v93 : BitVec 32 := Scalar.select v92 c11_i32_78 v91
  let v95 : BitVec 32 := Scalar.select v94 c7_i32_80 v93
  let v97 : BitVec 32 := Scalar.select v96 c3_i32_82 v95
  let c1_i32_307 : BitVec 32 := 1#32
  let v603 : BitVec 32 := Scalar.muli v97 c1_i32_307
  let v604 : BitVec 32 := Scalar.addi c0_i32_308 v603
  v604.toNat
def k0_dev6 (d0 : Dev nD) : Nat :=
  let c0_i32_314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c3_i32_49 : BitVec 32 := 3#32
  let c14_i32_46 : BitVec 32 := 14#32
  let v62 : BitVec 1 := Scalar.cmpi .eq v35 c14_i32_46
  let c7_i32_47 : BitVec 32 := 7#32
  let c13_i32_44 : BitVec 32 := 13#32
  let v60 : BitVec 1 := Scalar.cmpi .eq v35 c13_i32_44
  let c11_i32_45 : BitVec 32 := 11#32
  let c12_i32_42 : BitVec 32 := 12#32
  let v58 : BitVec 1 := Scalar.cmpi .eq v35 c12_i32_42
  let c15_i32_43 : BitVec 32 := 15#32
  let c11_i32_40 : BitVec 32 := 11#32
  let v56 : BitVec 1 := Scalar.cmpi .eq v35 c11_i32_40
  let c14_i32_41 : BitVec 32 := 14#32
  let c10_i32_38 : BitVec 32 := 10#32
  let v54 : BitVec 1 := Scalar.cmpi .eq v35 c10_i32_38
  let c10_i32_39 : BitVec 32 := 10#32
  let c9_i32_36 : BitVec 32 := 9#32
  let v52 : BitVec 1 := Scalar.cmpi .eq v35 c9_i32_36
  let c6_i32_37 : BitVec 32 := 6#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c1_i32_33 : BitVec 32 := 1#32
  let c6_i32_30 : BitVec 32 := 6#32
  let v46 : BitVec 1 := Scalar.cmpi .eq v35 c6_i32_30
  let c5_i32_31 : BitVec 32 := 5#32
  let c5_i32_28 : BitVec 32 := 5#32
  let v44 : BitVec 1 := Scalar.cmpi .eq v35 c5_i32_28
  let c9_i32_29 : BitVec 32 := 9#32
  let c4_i32_26 : BitVec 32 := 4#32
  let v42 : BitVec 1 := Scalar.cmpi .eq v35 c4_i32_26
  let c13_i32_27 : BitVec 32 := 13#32
  let c3_i32_24 : BitVec 32 := 3#32
  let v40 : BitVec 1 := Scalar.cmpi .eq v35 c3_i32_24
  let c12_i32_25 : BitVec 32 := 12#32
  let c2_i32_22 : BitVec 32 := 2#32
  let v38 : BitVec 1 := Scalar.cmpi .eq v35 c2_i32_22
  let c8_i32_23 : BitVec 32 := 8#32
  let c1_i32_19 : BitVec 32 := 1#32
  let v36 : BitVec 1 := Scalar.cmpi .eq v35 c1_i32_19
  let c4_i32_20 : BitVec 32 := 4#32
  let c0_i32_21 : BitVec 32 := 0#32
  let v37 : BitVec 32 := Scalar.select v36 c4_i32_20 c0_i32_21
  let v39 : BitVec 32 := Scalar.select v38 c8_i32_23 v37
  let v41 : BitVec 32 := Scalar.select v40 c12_i32_25 v39
  let v43 : BitVec 32 := Scalar.select v42 c13_i32_27 v41
  let v45 : BitVec 32 := Scalar.select v44 c9_i32_29 v43
  let v47 : BitVec 32 := Scalar.select v46 c5_i32_31 v45
  let v49 : BitVec 32 := Scalar.select v48 c1_i32_33 v47
  let v51 : BitVec 32 := Scalar.select v50 c2_i32_35 v49
  let v53 : BitVec 32 := Scalar.select v52 c6_i32_37 v51
  let v55 : BitVec 32 := Scalar.select v54 c10_i32_39 v53
  let v57 : BitVec 32 := Scalar.select v56 c14_i32_41 v55
  let v59 : BitVec 32 := Scalar.select v58 c15_i32_43 v57
  let v61 : BitVec 32 := Scalar.select v60 c11_i32_45 v59
  let v63 : BitVec 32 := Scalar.select v62 c7_i32_47 v61
  let v65 : BitVec 32 := Scalar.select v64 c3_i32_49 v63
  let c1_i32_313 : BitVec 32 := 1#32
  let v611 : BitVec 32 := Scalar.muli v65 c1_i32_313
  let v612 : BitVec 32 := Scalar.addi c0_i32_314 v611
  v612.toNat
def k0_off6 (d0 : Dev nD) (c0_i32_318 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_317 : BitVec 32 := 1#32
  let v619 : BitVec 32 := Scalar.subi v32 c1_i32_317
  let v620 : BitVec 32 := Scalar.subi v619 c0_i32_318
  let c16_i32_319 : BitVec 32 := 16#32
  let v621 : BitVec 32 := Scalar.addi v620 c16_i32_319
  let c16_i32_320 : BitVec 32 := 16#32
  let v622 : BitVec 32 := Scalar.remsi v621 c16_i32_320
  let c128_i32_327 : BitVec 32 := 128#32
  let v637 : BitVec 32 := Scalar.muli v622 c128_i32_327
  let v638 : Index := Scalar.indexCast v637
  let c0_328 : Index := 0#32
  ![v638.toNat, 0]
def k0_off7 (d0 : Dev nD) (c0_i32_322 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_321 : BitVec 32 := 1#32
  let v623 : BitVec 32 := Scalar.addi v32 c1_i32_321
  let v624 : BitVec 32 := Scalar.addi v623 c0_i32_322
  let c16_i32_323 : BitVec 32 := 16#32
  let v625 : BitVec 32 := Scalar.remsi v624 c16_i32_323
  let c128_i32_335 : BitVec 32 := 128#32
  let v655 : BitVec 32 := Scalar.muli v625 c128_i32_335
  let v656 : Index := Scalar.indexCast v655
  let c512_336 : Index := 512#32
  ![v656.toNat, 512]
def k0_dev7 (d0 : Dev nD) : Nat :=
  let c0_i32_372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c3_i32_82 : BitVec 32 := 3#32
  let c14_i32_79 : BitVec 32 := 14#32
  let v94 : BitVec 1 := Scalar.cmpi .eq v67 c14_i32_79
  let c7_i32_80 : BitVec 32 := 7#32
  let c13_i32_77 : BitVec 32 := 13#32
  let v92 : BitVec 1 := Scalar.cmpi .eq v67 c13_i32_77
  let c11_i32_78 : BitVec 32 := 11#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c1_i32_66 : BitVec 32 := 1#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c9_i32_62 : BitVec 32 := 9#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c13_i32_60 v73
  let v77 : BitVec 32 := Scalar.select v76 c9_i32_62 v75
  let v79 : BitVec 32 := Scalar.select v78 c5_i32_64 v77
  let v81 : BitVec 32 := Scalar.select v80 c1_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c15_i32_76 v89
  let v93 : BitVec 32 := Scalar.select v92 c11_i32_78 v91
  let v95 : BitVec 32 := Scalar.select v94 c7_i32_80 v93
  let v97 : BitVec 32 := Scalar.select v96 c3_i32_82 v95
  let c1_i32_371 : BitVec 32 := 1#32
  let v689 : BitVec 32 := Scalar.muli v97 c1_i32_371
  let v690 : BitVec 32 := Scalar.addi c0_i32_372 v689
  v690.toNat
def k0_dev8 (d0 : Dev nD) : Nat :=
  let c0_i32_378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c3_i32_49 : BitVec 32 := 3#32
  let c14_i32_46 : BitVec 32 := 14#32
  let v62 : BitVec 1 := Scalar.cmpi .eq v35 c14_i32_46
  let c7_i32_47 : BitVec 32 := 7#32
  let c13_i32_44 : BitVec 32 := 13#32
  let v60 : BitVec 1 := Scalar.cmpi .eq v35 c13_i32_44
  let c11_i32_45 : BitVec 32 := 11#32
  let c12_i32_42 : BitVec 32 := 12#32
  let v58 : BitVec 1 := Scalar.cmpi .eq v35 c12_i32_42
  let c15_i32_43 : BitVec 32 := 15#32
  let c11_i32_40 : BitVec 32 := 11#32
  let v56 : BitVec 1 := Scalar.cmpi .eq v35 c11_i32_40
  let c14_i32_41 : BitVec 32 := 14#32
  let c10_i32_38 : BitVec 32 := 10#32
  let v54 : BitVec 1 := Scalar.cmpi .eq v35 c10_i32_38
  let c10_i32_39 : BitVec 32 := 10#32
  let c9_i32_36 : BitVec 32 := 9#32
  let v52 : BitVec 1 := Scalar.cmpi .eq v35 c9_i32_36
  let c6_i32_37 : BitVec 32 := 6#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c1_i32_33 : BitVec 32 := 1#32
  let c6_i32_30 : BitVec 32 := 6#32
  let v46 : BitVec 1 := Scalar.cmpi .eq v35 c6_i32_30
  let c5_i32_31 : BitVec 32 := 5#32
  let c5_i32_28 : BitVec 32 := 5#32
  let v44 : BitVec 1 := Scalar.cmpi .eq v35 c5_i32_28
  let c9_i32_29 : BitVec 32 := 9#32
  let c4_i32_26 : BitVec 32 := 4#32
  let v42 : BitVec 1 := Scalar.cmpi .eq v35 c4_i32_26
  let c13_i32_27 : BitVec 32 := 13#32
  let c3_i32_24 : BitVec 32 := 3#32
  let v40 : BitVec 1 := Scalar.cmpi .eq v35 c3_i32_24
  let c12_i32_25 : BitVec 32 := 12#32
  let c2_i32_22 : BitVec 32 := 2#32
  let v38 : BitVec 1 := Scalar.cmpi .eq v35 c2_i32_22
  let c8_i32_23 : BitVec 32 := 8#32
  let c1_i32_19 : BitVec 32 := 1#32
  let v36 : BitVec 1 := Scalar.cmpi .eq v35 c1_i32_19
  let c4_i32_20 : BitVec 32 := 4#32
  let c0_i32_21 : BitVec 32 := 0#32
  let v37 : BitVec 32 := Scalar.select v36 c4_i32_20 c0_i32_21
  let v39 : BitVec 32 := Scalar.select v38 c8_i32_23 v37
  let v41 : BitVec 32 := Scalar.select v40 c12_i32_25 v39
  let v43 : BitVec 32 := Scalar.select v42 c13_i32_27 v41
  let v45 : BitVec 32 := Scalar.select v44 c9_i32_29 v43
  let v47 : BitVec 32 := Scalar.select v46 c5_i32_31 v45
  let v49 : BitVec 32 := Scalar.select v48 c1_i32_33 v47
  let v51 : BitVec 32 := Scalar.select v50 c2_i32_35 v49
  let v53 : BitVec 32 := Scalar.select v52 c6_i32_37 v51
  let v55 : BitVec 32 := Scalar.select v54 c10_i32_39 v53
  let v57 : BitVec 32 := Scalar.select v56 c14_i32_41 v55
  let v59 : BitVec 32 := Scalar.select v58 c15_i32_43 v57
  let v61 : BitVec 32 := Scalar.select v60 c11_i32_45 v59
  let v63 : BitVec 32 := Scalar.select v62 c7_i32_47 v61
  let v65 : BitVec 32 := Scalar.select v64 c3_i32_49 v63
  let c1_i32_377 : BitVec 32 := 1#32
  let v697 : BitVec 32 := Scalar.muli v65 c1_i32_377
  let v698 : BitVec 32 := Scalar.addi c0_i32_378 v697
  v698.toNat
def k0_dev9 (d0 : Dev nD) : Nat :=
  let c0_i32_436 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c3_i32_82 : BitVec 32 := 3#32
  let c14_i32_79 : BitVec 32 := 14#32
  let v94 : BitVec 1 := Scalar.cmpi .eq v67 c14_i32_79
  let c7_i32_80 : BitVec 32 := 7#32
  let c13_i32_77 : BitVec 32 := 13#32
  let v92 : BitVec 1 := Scalar.cmpi .eq v67 c13_i32_77
  let c11_i32_78 : BitVec 32 := 11#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c1_i32_66 : BitVec 32 := 1#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c9_i32_62 : BitVec 32 := 9#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c13_i32_60 v73
  let v77 : BitVec 32 := Scalar.select v76 c9_i32_62 v75
  let v79 : BitVec 32 := Scalar.select v78 c5_i32_64 v77
  let v81 : BitVec 32 := Scalar.select v80 c1_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c15_i32_76 v89
  let v93 : BitVec 32 := Scalar.select v92 c11_i32_78 v91
  let v95 : BitVec 32 := Scalar.select v94 c7_i32_80 v93
  let v97 : BitVec 32 := Scalar.select v96 c3_i32_82 v95
  let c1_i32_435 : BitVec 32 := 1#32
  let v775 : BitVec 32 := Scalar.muli v97 c1_i32_435
  let v776 : BitVec 32 := Scalar.addi c0_i32_436 v775
  v776.toNat
def k0_dev10 (d0 : Dev nD) : Nat :=
  let c0_i32_442 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c3_i32_49 : BitVec 32 := 3#32
  let c14_i32_46 : BitVec 32 := 14#32
  let v62 : BitVec 1 := Scalar.cmpi .eq v35 c14_i32_46
  let c7_i32_47 : BitVec 32 := 7#32
  let c13_i32_44 : BitVec 32 := 13#32
  let v60 : BitVec 1 := Scalar.cmpi .eq v35 c13_i32_44
  let c11_i32_45 : BitVec 32 := 11#32
  let c12_i32_42 : BitVec 32 := 12#32
  let v58 : BitVec 1 := Scalar.cmpi .eq v35 c12_i32_42
  let c15_i32_43 : BitVec 32 := 15#32
  let c11_i32_40 : BitVec 32 := 11#32
  let v56 : BitVec 1 := Scalar.cmpi .eq v35 c11_i32_40
  let c14_i32_41 : BitVec 32 := 14#32
  let c10_i32_38 : BitVec 32 := 10#32
  let v54 : BitVec 1 := Scalar.cmpi .eq v35 c10_i32_38
  let c10_i32_39 : BitVec 32 := 10#32
  let c9_i32_36 : BitVec 32 := 9#32
  let v52 : BitVec 1 := Scalar.cmpi .eq v35 c9_i32_36
  let c6_i32_37 : BitVec 32 := 6#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c1_i32_33 : BitVec 32 := 1#32
  let c6_i32_30 : BitVec 32 := 6#32
  let v46 : BitVec 1 := Scalar.cmpi .eq v35 c6_i32_30
  let c5_i32_31 : BitVec 32 := 5#32
  let c5_i32_28 : BitVec 32 := 5#32
  let v44 : BitVec 1 := Scalar.cmpi .eq v35 c5_i32_28
  let c9_i32_29 : BitVec 32 := 9#32
  let c4_i32_26 : BitVec 32 := 4#32
  let v42 : BitVec 1 := Scalar.cmpi .eq v35 c4_i32_26
  let c13_i32_27 : BitVec 32 := 13#32
  let c3_i32_24 : BitVec 32 := 3#32
  let v40 : BitVec 1 := Scalar.cmpi .eq v35 c3_i32_24
  let c12_i32_25 : BitVec 32 := 12#32
  let c2_i32_22 : BitVec 32 := 2#32
  let v38 : BitVec 1 := Scalar.cmpi .eq v35 c2_i32_22
  let c8_i32_23 : BitVec 32 := 8#32
  let c1_i32_19 : BitVec 32 := 1#32
  let v36 : BitVec 1 := Scalar.cmpi .eq v35 c1_i32_19
  let c4_i32_20 : BitVec 32 := 4#32
  let c0_i32_21 : BitVec 32 := 0#32
  let v37 : BitVec 32 := Scalar.select v36 c4_i32_20 c0_i32_21
  let v39 : BitVec 32 := Scalar.select v38 c8_i32_23 v37
  let v41 : BitVec 32 := Scalar.select v40 c12_i32_25 v39
  let v43 : BitVec 32 := Scalar.select v42 c13_i32_27 v41
  let v45 : BitVec 32 := Scalar.select v44 c9_i32_29 v43
  let v47 : BitVec 32 := Scalar.select v46 c5_i32_31 v45
  let v49 : BitVec 32 := Scalar.select v48 c1_i32_33 v47
  let v51 : BitVec 32 := Scalar.select v50 c2_i32_35 v49
  let v53 : BitVec 32 := Scalar.select v52 c6_i32_37 v51
  let v55 : BitVec 32 := Scalar.select v54 c10_i32_39 v53
  let v57 : BitVec 32 := Scalar.select v56 c14_i32_41 v55
  let v59 : BitVec 32 := Scalar.select v58 c15_i32_43 v57
  let v61 : BitVec 32 := Scalar.select v60 c11_i32_45 v59
  let v63 : BitVec 32 := Scalar.select v62 c7_i32_47 v61
  let v65 : BitVec 32 := Scalar.select v64 c3_i32_49 v63
  let c1_i32_441 : BitVec 32 := 1#32
  let v783 : BitVec 32 := Scalar.muli v65 c1_i32_441
  let v784 : BitVec 32 := Scalar.addi c0_i32_442 v783
  v784.toNat
def k0_dev11 (d0 : Dev nD) : Nat :=
  let c0_i32_500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c3_i32_82 : BitVec 32 := 3#32
  let c14_i32_79 : BitVec 32 := 14#32
  let v94 : BitVec 1 := Scalar.cmpi .eq v67 c14_i32_79
  let c7_i32_80 : BitVec 32 := 7#32
  let c13_i32_77 : BitVec 32 := 13#32
  let v92 : BitVec 1 := Scalar.cmpi .eq v67 c13_i32_77
  let c11_i32_78 : BitVec 32 := 11#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c1_i32_66 : BitVec 32 := 1#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c9_i32_62 : BitVec 32 := 9#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c13_i32_60 v73
  let v77 : BitVec 32 := Scalar.select v76 c9_i32_62 v75
  let v79 : BitVec 32 := Scalar.select v78 c5_i32_64 v77
  let v81 : BitVec 32 := Scalar.select v80 c1_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c15_i32_76 v89
  let v93 : BitVec 32 := Scalar.select v92 c11_i32_78 v91
  let v95 : BitVec 32 := Scalar.select v94 c7_i32_80 v93
  let v97 : BitVec 32 := Scalar.select v96 c3_i32_82 v95
  let c1_i32_499 : BitVec 32 := 1#32
  let v861 : BitVec 32 := Scalar.muli v97 c1_i32_499
  let v862 : BitVec 32 := Scalar.addi c0_i32_500 v861
  v862.toNat
def k0_dev12 (d0 : Dev nD) : Nat :=
  let c0_i32_506 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c3_i32_49 : BitVec 32 := 3#32
  let c14_i32_46 : BitVec 32 := 14#32
  let v62 : BitVec 1 := Scalar.cmpi .eq v35 c14_i32_46
  let c7_i32_47 : BitVec 32 := 7#32
  let c13_i32_44 : BitVec 32 := 13#32
  let v60 : BitVec 1 := Scalar.cmpi .eq v35 c13_i32_44
  let c11_i32_45 : BitVec 32 := 11#32
  let c12_i32_42 : BitVec 32 := 12#32
  let v58 : BitVec 1 := Scalar.cmpi .eq v35 c12_i32_42
  let c15_i32_43 : BitVec 32 := 15#32
  let c11_i32_40 : BitVec 32 := 11#32
  let v56 : BitVec 1 := Scalar.cmpi .eq v35 c11_i32_40
  let c14_i32_41 : BitVec 32 := 14#32
  let c10_i32_38 : BitVec 32 := 10#32
  let v54 : BitVec 1 := Scalar.cmpi .eq v35 c10_i32_38
  let c10_i32_39 : BitVec 32 := 10#32
  let c9_i32_36 : BitVec 32 := 9#32
  let v52 : BitVec 1 := Scalar.cmpi .eq v35 c9_i32_36
  let c6_i32_37 : BitVec 32 := 6#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c1_i32_33 : BitVec 32 := 1#32
  let c6_i32_30 : BitVec 32 := 6#32
  let v46 : BitVec 1 := Scalar.cmpi .eq v35 c6_i32_30
  let c5_i32_31 : BitVec 32 := 5#32
  let c5_i32_28 : BitVec 32 := 5#32
  let v44 : BitVec 1 := Scalar.cmpi .eq v35 c5_i32_28
  let c9_i32_29 : BitVec 32 := 9#32
  let c4_i32_26 : BitVec 32 := 4#32
  let v42 : BitVec 1 := Scalar.cmpi .eq v35 c4_i32_26
  let c13_i32_27 : BitVec 32 := 13#32
  let c3_i32_24 : BitVec 32 := 3#32
  let v40 : BitVec 1 := Scalar.cmpi .eq v35 c3_i32_24
  let c12_i32_25 : BitVec 32 := 12#32
  let c2_i32_22 : BitVec 32 := 2#32
  let v38 : BitVec 1 := Scalar.cmpi .eq v35 c2_i32_22
  let c8_i32_23 : BitVec 32 := 8#32
  let c1_i32_19 : BitVec 32 := 1#32
  let v36 : BitVec 1 := Scalar.cmpi .eq v35 c1_i32_19
  let c4_i32_20 : BitVec 32 := 4#32
  let c0_i32_21 : BitVec 32 := 0#32
  let v37 : BitVec 32 := Scalar.select v36 c4_i32_20 c0_i32_21
  let v39 : BitVec 32 := Scalar.select v38 c8_i32_23 v37
  let v41 : BitVec 32 := Scalar.select v40 c12_i32_25 v39
  let v43 : BitVec 32 := Scalar.select v42 c13_i32_27 v41
  let v45 : BitVec 32 := Scalar.select v44 c9_i32_29 v43
  let v47 : BitVec 32 := Scalar.select v46 c5_i32_31 v45
  let v49 : BitVec 32 := Scalar.select v48 c1_i32_33 v47
  let v51 : BitVec 32 := Scalar.select v50 c2_i32_35 v49
  let v53 : BitVec 32 := Scalar.select v52 c6_i32_37 v51
  let v55 : BitVec 32 := Scalar.select v54 c10_i32_39 v53
  let v57 : BitVec 32 := Scalar.select v56 c14_i32_41 v55
  let v59 : BitVec 32 := Scalar.select v58 c15_i32_43 v57
  let v61 : BitVec 32 := Scalar.select v60 c11_i32_45 v59
  let v63 : BitVec 32 := Scalar.select v62 c7_i32_47 v61
  let v65 : BitVec 32 := Scalar.select v64 c3_i32_49 v63
  let c1_i32_505 : BitVec 32 := 1#32
  let v869 : BitVec 32 := Scalar.muli v65 c1_i32_505
  let v870 : BitVec 32 := Scalar.addi c0_i32_506 v869
  v870.toNat
def k0_dev13 (d0 : Dev nD) : Nat :=
  let c0_i32_564 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c3_i32_82 : BitVec 32 := 3#32
  let c14_i32_79 : BitVec 32 := 14#32
  let v94 : BitVec 1 := Scalar.cmpi .eq v67 c14_i32_79
  let c7_i32_80 : BitVec 32 := 7#32
  let c13_i32_77 : BitVec 32 := 13#32
  let v92 : BitVec 1 := Scalar.cmpi .eq v67 c13_i32_77
  let c11_i32_78 : BitVec 32 := 11#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c1_i32_66 : BitVec 32 := 1#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c9_i32_62 : BitVec 32 := 9#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c13_i32_60 v73
  let v77 : BitVec 32 := Scalar.select v76 c9_i32_62 v75
  let v79 : BitVec 32 := Scalar.select v78 c5_i32_64 v77
  let v81 : BitVec 32 := Scalar.select v80 c1_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c15_i32_76 v89
  let v93 : BitVec 32 := Scalar.select v92 c11_i32_78 v91
  let v95 : BitVec 32 := Scalar.select v94 c7_i32_80 v93
  let v97 : BitVec 32 := Scalar.select v96 c3_i32_82 v95
  let c1_i32_563 : BitVec 32 := 1#32
  let v947 : BitVec 32 := Scalar.muli v97 c1_i32_563
  let v948 : BitVec 32 := Scalar.addi c0_i32_564 v947
  v948.toNat
def k0_dev14 (d0 : Dev nD) : Nat :=
  let c0_i32_570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c3_i32_49 : BitVec 32 := 3#32
  let c14_i32_46 : BitVec 32 := 14#32
  let v62 : BitVec 1 := Scalar.cmpi .eq v35 c14_i32_46
  let c7_i32_47 : BitVec 32 := 7#32
  let c13_i32_44 : BitVec 32 := 13#32
  let v60 : BitVec 1 := Scalar.cmpi .eq v35 c13_i32_44
  let c11_i32_45 : BitVec 32 := 11#32
  let c12_i32_42 : BitVec 32 := 12#32
  let v58 : BitVec 1 := Scalar.cmpi .eq v35 c12_i32_42
  let c15_i32_43 : BitVec 32 := 15#32
  let c11_i32_40 : BitVec 32 := 11#32
  let v56 : BitVec 1 := Scalar.cmpi .eq v35 c11_i32_40
  let c14_i32_41 : BitVec 32 := 14#32
  let c10_i32_38 : BitVec 32 := 10#32
  let v54 : BitVec 1 := Scalar.cmpi .eq v35 c10_i32_38
  let c10_i32_39 : BitVec 32 := 10#32
  let c9_i32_36 : BitVec 32 := 9#32
  let v52 : BitVec 1 := Scalar.cmpi .eq v35 c9_i32_36
  let c6_i32_37 : BitVec 32 := 6#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c1_i32_33 : BitVec 32 := 1#32
  let c6_i32_30 : BitVec 32 := 6#32
  let v46 : BitVec 1 := Scalar.cmpi .eq v35 c6_i32_30
  let c5_i32_31 : BitVec 32 := 5#32
  let c5_i32_28 : BitVec 32 := 5#32
  let v44 : BitVec 1 := Scalar.cmpi .eq v35 c5_i32_28
  let c9_i32_29 : BitVec 32 := 9#32
  let c4_i32_26 : BitVec 32 := 4#32
  let v42 : BitVec 1 := Scalar.cmpi .eq v35 c4_i32_26
  let c13_i32_27 : BitVec 32 := 13#32
  let c3_i32_24 : BitVec 32 := 3#32
  let v40 : BitVec 1 := Scalar.cmpi .eq v35 c3_i32_24
  let c12_i32_25 : BitVec 32 := 12#32
  let c2_i32_22 : BitVec 32 := 2#32
  let v38 : BitVec 1 := Scalar.cmpi .eq v35 c2_i32_22
  let c8_i32_23 : BitVec 32 := 8#32
  let c1_i32_19 : BitVec 32 := 1#32
  let v36 : BitVec 1 := Scalar.cmpi .eq v35 c1_i32_19
  let c4_i32_20 : BitVec 32 := 4#32
  let c0_i32_21 : BitVec 32 := 0#32
  let v37 : BitVec 32 := Scalar.select v36 c4_i32_20 c0_i32_21
  let v39 : BitVec 32 := Scalar.select v38 c8_i32_23 v37
  let v41 : BitVec 32 := Scalar.select v40 c12_i32_25 v39
  let v43 : BitVec 32 := Scalar.select v42 c13_i32_27 v41
  let v45 : BitVec 32 := Scalar.select v44 c9_i32_29 v43
  let v47 : BitVec 32 := Scalar.select v46 c5_i32_31 v45
  let v49 : BitVec 32 := Scalar.select v48 c1_i32_33 v47
  let v51 : BitVec 32 := Scalar.select v50 c2_i32_35 v49
  let v53 : BitVec 32 := Scalar.select v52 c6_i32_37 v51
  let v55 : BitVec 32 := Scalar.select v54 c10_i32_39 v53
  let v57 : BitVec 32 := Scalar.select v56 c14_i32_41 v55
  let v59 : BitVec 32 := Scalar.select v58 c15_i32_43 v57
  let v61 : BitVec 32 := Scalar.select v60 c11_i32_45 v59
  let v63 : BitVec 32 := Scalar.select v62 c7_i32_47 v61
  let v65 : BitVec 32 := Scalar.select v64 c3_i32_49 v63
  let c1_i32_569 : BitVec 32 := 1#32
  let v955 : BitVec 32 := Scalar.muli v65 c1_i32_569
  let v956 : BitVec 32 := Scalar.addi c0_i32_570 v955
  v956.toNat
def k0_dev15 (d0 : Dev nD) : Nat :=
  let c0_i32_628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c3_i32_82 : BitVec 32 := 3#32
  let c14_i32_79 : BitVec 32 := 14#32
  let v94 : BitVec 1 := Scalar.cmpi .eq v67 c14_i32_79
  let c7_i32_80 : BitVec 32 := 7#32
  let c13_i32_77 : BitVec 32 := 13#32
  let v92 : BitVec 1 := Scalar.cmpi .eq v67 c13_i32_77
  let c11_i32_78 : BitVec 32 := 11#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c1_i32_66 : BitVec 32 := 1#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c9_i32_62 : BitVec 32 := 9#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c13_i32_60 v73
  let v77 : BitVec 32 := Scalar.select v76 c9_i32_62 v75
  let v79 : BitVec 32 := Scalar.select v78 c5_i32_64 v77
  let v81 : BitVec 32 := Scalar.select v80 c1_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c15_i32_76 v89
  let v93 : BitVec 32 := Scalar.select v92 c11_i32_78 v91
  let v95 : BitVec 32 := Scalar.select v94 c7_i32_80 v93
  let v97 : BitVec 32 := Scalar.select v96 c3_i32_82 v95
  let c1_i32_627 : BitVec 32 := 1#32
  let v1033 : BitVec 32 := Scalar.muli v97 c1_i32_627
  let v1034 : BitVec 32 := Scalar.addi c0_i32_628 v1033
  v1034.toNat
def k0_dev16 (d0 : Dev nD) : Nat :=
  let c0_i32_634 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c3_i32_49 : BitVec 32 := 3#32
  let c14_i32_46 : BitVec 32 := 14#32
  let v62 : BitVec 1 := Scalar.cmpi .eq v35 c14_i32_46
  let c7_i32_47 : BitVec 32 := 7#32
  let c13_i32_44 : BitVec 32 := 13#32
  let v60 : BitVec 1 := Scalar.cmpi .eq v35 c13_i32_44
  let c11_i32_45 : BitVec 32 := 11#32
  let c12_i32_42 : BitVec 32 := 12#32
  let v58 : BitVec 1 := Scalar.cmpi .eq v35 c12_i32_42
  let c15_i32_43 : BitVec 32 := 15#32
  let c11_i32_40 : BitVec 32 := 11#32
  let v56 : BitVec 1 := Scalar.cmpi .eq v35 c11_i32_40
  let c14_i32_41 : BitVec 32 := 14#32
  let c10_i32_38 : BitVec 32 := 10#32
  let v54 : BitVec 1 := Scalar.cmpi .eq v35 c10_i32_38
  let c10_i32_39 : BitVec 32 := 10#32
  let c9_i32_36 : BitVec 32 := 9#32
  let v52 : BitVec 1 := Scalar.cmpi .eq v35 c9_i32_36
  let c6_i32_37 : BitVec 32 := 6#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c1_i32_33 : BitVec 32 := 1#32
  let c6_i32_30 : BitVec 32 := 6#32
  let v46 : BitVec 1 := Scalar.cmpi .eq v35 c6_i32_30
  let c5_i32_31 : BitVec 32 := 5#32
  let c5_i32_28 : BitVec 32 := 5#32
  let v44 : BitVec 1 := Scalar.cmpi .eq v35 c5_i32_28
  let c9_i32_29 : BitVec 32 := 9#32
  let c4_i32_26 : BitVec 32 := 4#32
  let v42 : BitVec 1 := Scalar.cmpi .eq v35 c4_i32_26
  let c13_i32_27 : BitVec 32 := 13#32
  let c3_i32_24 : BitVec 32 := 3#32
  let v40 : BitVec 1 := Scalar.cmpi .eq v35 c3_i32_24
  let c12_i32_25 : BitVec 32 := 12#32
  let c2_i32_22 : BitVec 32 := 2#32
  let v38 : BitVec 1 := Scalar.cmpi .eq v35 c2_i32_22
  let c8_i32_23 : BitVec 32 := 8#32
  let c1_i32_19 : BitVec 32 := 1#32
  let v36 : BitVec 1 := Scalar.cmpi .eq v35 c1_i32_19
  let c4_i32_20 : BitVec 32 := 4#32
  let c0_i32_21 : BitVec 32 := 0#32
  let v37 : BitVec 32 := Scalar.select v36 c4_i32_20 c0_i32_21
  let v39 : BitVec 32 := Scalar.select v38 c8_i32_23 v37
  let v41 : BitVec 32 := Scalar.select v40 c12_i32_25 v39
  let v43 : BitVec 32 := Scalar.select v42 c13_i32_27 v41
  let v45 : BitVec 32 := Scalar.select v44 c9_i32_29 v43
  let v47 : BitVec 32 := Scalar.select v46 c5_i32_31 v45
  let v49 : BitVec 32 := Scalar.select v48 c1_i32_33 v47
  let v51 : BitVec 32 := Scalar.select v50 c2_i32_35 v49
  let v53 : BitVec 32 := Scalar.select v52 c6_i32_37 v51
  let v55 : BitVec 32 := Scalar.select v54 c10_i32_39 v53
  let v57 : BitVec 32 := Scalar.select v56 c14_i32_41 v55
  let v59 : BitVec 32 := Scalar.select v58 c15_i32_43 v57
  let v61 : BitVec 32 := Scalar.select v60 c11_i32_45 v59
  let v63 : BitVec 32 := Scalar.select v62 c7_i32_47 v61
  let v65 : BitVec 32 := Scalar.select v64 c3_i32_49 v63
  let c1_i32_633 : BitVec 32 := 1#32
  let v1041 : BitVec 32 := Scalar.muli v65 c1_i32_633
  let v1042 : BitVec 32 := Scalar.addi c0_i32_634 v1041
  v1042.toNat
def k0_dev17 (d0 : Dev nD) : Nat :=
  let c0_i32_692 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c3_i32_82 : BitVec 32 := 3#32
  let c14_i32_79 : BitVec 32 := 14#32
  let v94 : BitVec 1 := Scalar.cmpi .eq v67 c14_i32_79
  let c7_i32_80 : BitVec 32 := 7#32
  let c13_i32_77 : BitVec 32 := 13#32
  let v92 : BitVec 1 := Scalar.cmpi .eq v67 c13_i32_77
  let c11_i32_78 : BitVec 32 := 11#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c1_i32_66 : BitVec 32 := 1#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c9_i32_62 : BitVec 32 := 9#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c13_i32_60 v73
  let v77 : BitVec 32 := Scalar.select v76 c9_i32_62 v75
  let v79 : BitVec 32 := Scalar.select v78 c5_i32_64 v77
  let v81 : BitVec 32 := Scalar.select v80 c1_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c15_i32_76 v89
  let v93 : BitVec 32 := Scalar.select v92 c11_i32_78 v91
  let v95 : BitVec 32 := Scalar.select v94 c7_i32_80 v93
  let v97 : BitVec 32 := Scalar.select v96 c3_i32_82 v95
  let c1_i32_691 : BitVec 32 := 1#32
  let v1119 : BitVec 32 := Scalar.muli v97 c1_i32_691
  let v1120 : BitVec 32 := Scalar.addi c0_i32_692 v1119
  v1120.toNat
def k0_dev18 (d0 : Dev nD) : Nat :=
  let c0_i32_698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c3_i32_49 : BitVec 32 := 3#32
  let c14_i32_46 : BitVec 32 := 14#32
  let v62 : BitVec 1 := Scalar.cmpi .eq v35 c14_i32_46
  let c7_i32_47 : BitVec 32 := 7#32
  let c13_i32_44 : BitVec 32 := 13#32
  let v60 : BitVec 1 := Scalar.cmpi .eq v35 c13_i32_44
  let c11_i32_45 : BitVec 32 := 11#32
  let c12_i32_42 : BitVec 32 := 12#32
  let v58 : BitVec 1 := Scalar.cmpi .eq v35 c12_i32_42
  let c15_i32_43 : BitVec 32 := 15#32
  let c11_i32_40 : BitVec 32 := 11#32
  let v56 : BitVec 1 := Scalar.cmpi .eq v35 c11_i32_40
  let c14_i32_41 : BitVec 32 := 14#32
  let c10_i32_38 : BitVec 32 := 10#32
  let v54 : BitVec 1 := Scalar.cmpi .eq v35 c10_i32_38
  let c10_i32_39 : BitVec 32 := 10#32
  let c9_i32_36 : BitVec 32 := 9#32
  let v52 : BitVec 1 := Scalar.cmpi .eq v35 c9_i32_36
  let c6_i32_37 : BitVec 32 := 6#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c1_i32_33 : BitVec 32 := 1#32
  let c6_i32_30 : BitVec 32 := 6#32
  let v46 : BitVec 1 := Scalar.cmpi .eq v35 c6_i32_30
  let c5_i32_31 : BitVec 32 := 5#32
  let c5_i32_28 : BitVec 32 := 5#32
  let v44 : BitVec 1 := Scalar.cmpi .eq v35 c5_i32_28
  let c9_i32_29 : BitVec 32 := 9#32
  let c4_i32_26 : BitVec 32 := 4#32
  let v42 : BitVec 1 := Scalar.cmpi .eq v35 c4_i32_26
  let c13_i32_27 : BitVec 32 := 13#32
  let c3_i32_24 : BitVec 32 := 3#32
  let v40 : BitVec 1 := Scalar.cmpi .eq v35 c3_i32_24
  let c12_i32_25 : BitVec 32 := 12#32
  let c2_i32_22 : BitVec 32 := 2#32
  let v38 : BitVec 1 := Scalar.cmpi .eq v35 c2_i32_22
  let c8_i32_23 : BitVec 32 := 8#32
  let c1_i32_19 : BitVec 32 := 1#32
  let v36 : BitVec 1 := Scalar.cmpi .eq v35 c1_i32_19
  let c4_i32_20 : BitVec 32 := 4#32
  let c0_i32_21 : BitVec 32 := 0#32
  let v37 : BitVec 32 := Scalar.select v36 c4_i32_20 c0_i32_21
  let v39 : BitVec 32 := Scalar.select v38 c8_i32_23 v37
  let v41 : BitVec 32 := Scalar.select v40 c12_i32_25 v39
  let v43 : BitVec 32 := Scalar.select v42 c13_i32_27 v41
  let v45 : BitVec 32 := Scalar.select v44 c9_i32_29 v43
  let v47 : BitVec 32 := Scalar.select v46 c5_i32_31 v45
  let v49 : BitVec 32 := Scalar.select v48 c1_i32_33 v47
  let v51 : BitVec 32 := Scalar.select v50 c2_i32_35 v49
  let v53 : BitVec 32 := Scalar.select v52 c6_i32_37 v51
  let v55 : BitVec 32 := Scalar.select v54 c10_i32_39 v53
  let v57 : BitVec 32 := Scalar.select v56 c14_i32_41 v55
  let v59 : BitVec 32 := Scalar.select v58 c15_i32_43 v57
  let v61 : BitVec 32 := Scalar.select v60 c11_i32_45 v59
  let v63 : BitVec 32 := Scalar.select v62 c7_i32_47 v61
  let v65 : BitVec 32 := Scalar.select v64 c3_i32_49 v63
  let c1_i32_697 : BitVec 32 := 1#32
  let v1127 : BitVec 32 := Scalar.muli v65 c1_i32_697
  let v1128 : BitVec 32 := Scalar.addi c0_i32_698 v1127
  v1128.toNat
def k0_dev19 (d0 : Dev nD) : Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c3_i32_82 : BitVec 32 := 3#32
  let c14_i32_79 : BitVec 32 := 14#32
  let v94 : BitVec 1 := Scalar.cmpi .eq v67 c14_i32_79
  let c7_i32_80 : BitVec 32 := 7#32
  let c13_i32_77 : BitVec 32 := 13#32
  let v92 : BitVec 1 := Scalar.cmpi .eq v67 c13_i32_77
  let c11_i32_78 : BitVec 32 := 11#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c1_i32_66 : BitVec 32 := 1#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c9_i32_62 : BitVec 32 := 9#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c13_i32_60 v73
  let v77 : BitVec 32 := Scalar.select v76 c9_i32_62 v75
  let v79 : BitVec 32 := Scalar.select v78 c5_i32_64 v77
  let v81 : BitVec 32 := Scalar.select v80 c1_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c15_i32_76 v89
  let v93 : BitVec 32 := Scalar.select v92 c11_i32_78 v91
  let v95 : BitVec 32 := Scalar.select v94 c7_i32_80 v93
  let v97 : BitVec 32 := Scalar.select v96 c3_i32_82 v95
  let c1_i32_755 : BitVec 32 := 1#32
  let v1205 : BitVec 32 := Scalar.muli v97 c1_i32_755
  let v1206 : BitVec 32 := Scalar.addi c0_i32_756 v1205
  v1206.toNat
def k0_dev20 (d0 : Dev nD) : Nat :=
  let c0_i32_762 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c3_i32_49 : BitVec 32 := 3#32
  let c14_i32_46 : BitVec 32 := 14#32
  let v62 : BitVec 1 := Scalar.cmpi .eq v35 c14_i32_46
  let c7_i32_47 : BitVec 32 := 7#32
  let c13_i32_44 : BitVec 32 := 13#32
  let v60 : BitVec 1 := Scalar.cmpi .eq v35 c13_i32_44
  let c11_i32_45 : BitVec 32 := 11#32
  let c12_i32_42 : BitVec 32 := 12#32
  let v58 : BitVec 1 := Scalar.cmpi .eq v35 c12_i32_42
  let c15_i32_43 : BitVec 32 := 15#32
  let c11_i32_40 : BitVec 32 := 11#32
  let v56 : BitVec 1 := Scalar.cmpi .eq v35 c11_i32_40
  let c14_i32_41 : BitVec 32 := 14#32
  let c10_i32_38 : BitVec 32 := 10#32
  let v54 : BitVec 1 := Scalar.cmpi .eq v35 c10_i32_38
  let c10_i32_39 : BitVec 32 := 10#32
  let c9_i32_36 : BitVec 32 := 9#32
  let v52 : BitVec 1 := Scalar.cmpi .eq v35 c9_i32_36
  let c6_i32_37 : BitVec 32 := 6#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c1_i32_33 : BitVec 32 := 1#32
  let c6_i32_30 : BitVec 32 := 6#32
  let v46 : BitVec 1 := Scalar.cmpi .eq v35 c6_i32_30
  let c5_i32_31 : BitVec 32 := 5#32
  let c5_i32_28 : BitVec 32 := 5#32
  let v44 : BitVec 1 := Scalar.cmpi .eq v35 c5_i32_28
  let c9_i32_29 : BitVec 32 := 9#32
  let c4_i32_26 : BitVec 32 := 4#32
  let v42 : BitVec 1 := Scalar.cmpi .eq v35 c4_i32_26
  let c13_i32_27 : BitVec 32 := 13#32
  let c3_i32_24 : BitVec 32 := 3#32
  let v40 : BitVec 1 := Scalar.cmpi .eq v35 c3_i32_24
  let c12_i32_25 : BitVec 32 := 12#32
  let c2_i32_22 : BitVec 32 := 2#32
  let v38 : BitVec 1 := Scalar.cmpi .eq v35 c2_i32_22
  let c8_i32_23 : BitVec 32 := 8#32
  let c1_i32_19 : BitVec 32 := 1#32
  let v36 : BitVec 1 := Scalar.cmpi .eq v35 c1_i32_19
  let c4_i32_20 : BitVec 32 := 4#32
  let c0_i32_21 : BitVec 32 := 0#32
  let v37 : BitVec 32 := Scalar.select v36 c4_i32_20 c0_i32_21
  let v39 : BitVec 32 := Scalar.select v38 c8_i32_23 v37
  let v41 : BitVec 32 := Scalar.select v40 c12_i32_25 v39
  let v43 : BitVec 32 := Scalar.select v42 c13_i32_27 v41
  let v45 : BitVec 32 := Scalar.select v44 c9_i32_29 v43
  let v47 : BitVec 32 := Scalar.select v46 c5_i32_31 v45
  let v49 : BitVec 32 := Scalar.select v48 c1_i32_33 v47
  let v51 : BitVec 32 := Scalar.select v50 c2_i32_35 v49
  let v53 : BitVec 32 := Scalar.select v52 c6_i32_37 v51
  let v55 : BitVec 32 := Scalar.select v54 c10_i32_39 v53
  let v57 : BitVec 32 := Scalar.select v56 c14_i32_41 v55
  let v59 : BitVec 32 := Scalar.select v58 c15_i32_43 v57
  let v61 : BitVec 32 := Scalar.select v60 c11_i32_45 v59
  let v63 : BitVec 32 := Scalar.select v62 c7_i32_47 v61
  let v65 : BitVec 32 := Scalar.select v64 c3_i32_49 v63
  let c1_i32_761 : BitVec 32 := 1#32
  let v1213 : BitVec 32 := Scalar.muli v65 c1_i32_761
  let v1214 : BitVec 32 := Scalar.addi c0_i32_762 v1213
  v1214.toNat
def k0_dev21 (d0 : Dev nD) : Nat :=
  let c0_i32_820 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c3_i32_82 : BitVec 32 := 3#32
  let c14_i32_79 : BitVec 32 := 14#32
  let v94 : BitVec 1 := Scalar.cmpi .eq v67 c14_i32_79
  let c7_i32_80 : BitVec 32 := 7#32
  let c13_i32_77 : BitVec 32 := 13#32
  let v92 : BitVec 1 := Scalar.cmpi .eq v67 c13_i32_77
  let c11_i32_78 : BitVec 32 := 11#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c1_i32_66 : BitVec 32 := 1#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c9_i32_62 : BitVec 32 := 9#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c13_i32_60 v73
  let v77 : BitVec 32 := Scalar.select v76 c9_i32_62 v75
  let v79 : BitVec 32 := Scalar.select v78 c5_i32_64 v77
  let v81 : BitVec 32 := Scalar.select v80 c1_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c15_i32_76 v89
  let v93 : BitVec 32 := Scalar.select v92 c11_i32_78 v91
  let v95 : BitVec 32 := Scalar.select v94 c7_i32_80 v93
  let v97 : BitVec 32 := Scalar.select v96 c3_i32_82 v95
  let c1_i32_819 : BitVec 32 := 1#32
  let v1291 : BitVec 32 := Scalar.muli v97 c1_i32_819
  let v1292 : BitVec 32 := Scalar.addi c0_i32_820 v1291
  v1292.toNat
def k0_dev22 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c3_i32_49 : BitVec 32 := 3#32
  let c14_i32_46 : BitVec 32 := 14#32
  let v62 : BitVec 1 := Scalar.cmpi .eq v35 c14_i32_46
  let c7_i32_47 : BitVec 32 := 7#32
  let c13_i32_44 : BitVec 32 := 13#32
  let v60 : BitVec 1 := Scalar.cmpi .eq v35 c13_i32_44
  let c11_i32_45 : BitVec 32 := 11#32
  let c12_i32_42 : BitVec 32 := 12#32
  let v58 : BitVec 1 := Scalar.cmpi .eq v35 c12_i32_42
  let c15_i32_43 : BitVec 32 := 15#32
  let c11_i32_40 : BitVec 32 := 11#32
  let v56 : BitVec 1 := Scalar.cmpi .eq v35 c11_i32_40
  let c14_i32_41 : BitVec 32 := 14#32
  let c10_i32_38 : BitVec 32 := 10#32
  let v54 : BitVec 1 := Scalar.cmpi .eq v35 c10_i32_38
  let c10_i32_39 : BitVec 32 := 10#32
  let c9_i32_36 : BitVec 32 := 9#32
  let v52 : BitVec 1 := Scalar.cmpi .eq v35 c9_i32_36
  let c6_i32_37 : BitVec 32 := 6#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c1_i32_33 : BitVec 32 := 1#32
  let c6_i32_30 : BitVec 32 := 6#32
  let v46 : BitVec 1 := Scalar.cmpi .eq v35 c6_i32_30
  let c5_i32_31 : BitVec 32 := 5#32
  let c5_i32_28 : BitVec 32 := 5#32
  let v44 : BitVec 1 := Scalar.cmpi .eq v35 c5_i32_28
  let c9_i32_29 : BitVec 32 := 9#32
  let c4_i32_26 : BitVec 32 := 4#32
  let v42 : BitVec 1 := Scalar.cmpi .eq v35 c4_i32_26
  let c13_i32_27 : BitVec 32 := 13#32
  let c3_i32_24 : BitVec 32 := 3#32
  let v40 : BitVec 1 := Scalar.cmpi .eq v35 c3_i32_24
  let c12_i32_25 : BitVec 32 := 12#32
  let c2_i32_22 : BitVec 32 := 2#32
  let v38 : BitVec 1 := Scalar.cmpi .eq v35 c2_i32_22
  let c8_i32_23 : BitVec 32 := 8#32
  let c1_i32_19 : BitVec 32 := 1#32
  let v36 : BitVec 1 := Scalar.cmpi .eq v35 c1_i32_19
  let c4_i32_20 : BitVec 32 := 4#32
  let c0_i32_21 : BitVec 32 := 0#32
  let v37 : BitVec 32 := Scalar.select v36 c4_i32_20 c0_i32_21
  let v39 : BitVec 32 := Scalar.select v38 c8_i32_23 v37
  let v41 : BitVec 32 := Scalar.select v40 c12_i32_25 v39
  let v43 : BitVec 32 := Scalar.select v42 c13_i32_27 v41
  let v45 : BitVec 32 := Scalar.select v44 c9_i32_29 v43
  let v47 : BitVec 32 := Scalar.select v46 c5_i32_31 v45
  let v49 : BitVec 32 := Scalar.select v48 c1_i32_33 v47
  let v51 : BitVec 32 := Scalar.select v50 c2_i32_35 v49
  let v53 : BitVec 32 := Scalar.select v52 c6_i32_37 v51
  let v55 : BitVec 32 := Scalar.select v54 c10_i32_39 v53
  let v57 : BitVec 32 := Scalar.select v56 c14_i32_41 v55
  let v59 : BitVec 32 := Scalar.select v58 c15_i32_43 v57
  let v61 : BitVec 32 := Scalar.select v60 c11_i32_45 v59
  let v63 : BitVec 32 := Scalar.select v62 c7_i32_47 v61
  let v65 : BitVec 32 := Scalar.select v64 c3_i32_49 v63
  let c1_i32_825 : BitVec 32 := 1#32
  let v1299 : BitVec 32 := Scalar.muli v65 c1_i32_825
  let v1300 : BitVec 32 := Scalar.addi c0_i32_826 v1299
  v1300.toNat
def k0_dev23 (d0 : Dev nD) : Nat :=
  let c0_i32_884 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c3_i32_82 : BitVec 32 := 3#32
  let c14_i32_79 : BitVec 32 := 14#32
  let v94 : BitVec 1 := Scalar.cmpi .eq v67 c14_i32_79
  let c7_i32_80 : BitVec 32 := 7#32
  let c13_i32_77 : BitVec 32 := 13#32
  let v92 : BitVec 1 := Scalar.cmpi .eq v67 c13_i32_77
  let c11_i32_78 : BitVec 32 := 11#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c1_i32_66 : BitVec 32 := 1#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c9_i32_62 : BitVec 32 := 9#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c13_i32_60 v73
  let v77 : BitVec 32 := Scalar.select v76 c9_i32_62 v75
  let v79 : BitVec 32 := Scalar.select v78 c5_i32_64 v77
  let v81 : BitVec 32 := Scalar.select v80 c1_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c15_i32_76 v89
  let v93 : BitVec 32 := Scalar.select v92 c11_i32_78 v91
  let v95 : BitVec 32 := Scalar.select v94 c7_i32_80 v93
  let v97 : BitVec 32 := Scalar.select v96 c3_i32_82 v95
  let c1_i32_883 : BitVec 32 := 1#32
  let v1377 : BitVec 32 := Scalar.muli v97 c1_i32_883
  let v1378 : BitVec 32 := Scalar.addi c0_i32_884 v1377
  v1378.toNat
def k0_dev24 (d0 : Dev nD) : Nat :=
  let c0_i32_890 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c3_i32_49 : BitVec 32 := 3#32
  let c14_i32_46 : BitVec 32 := 14#32
  let v62 : BitVec 1 := Scalar.cmpi .eq v35 c14_i32_46
  let c7_i32_47 : BitVec 32 := 7#32
  let c13_i32_44 : BitVec 32 := 13#32
  let v60 : BitVec 1 := Scalar.cmpi .eq v35 c13_i32_44
  let c11_i32_45 : BitVec 32 := 11#32
  let c12_i32_42 : BitVec 32 := 12#32
  let v58 : BitVec 1 := Scalar.cmpi .eq v35 c12_i32_42
  let c15_i32_43 : BitVec 32 := 15#32
  let c11_i32_40 : BitVec 32 := 11#32
  let v56 : BitVec 1 := Scalar.cmpi .eq v35 c11_i32_40
  let c14_i32_41 : BitVec 32 := 14#32
  let c10_i32_38 : BitVec 32 := 10#32
  let v54 : BitVec 1 := Scalar.cmpi .eq v35 c10_i32_38
  let c10_i32_39 : BitVec 32 := 10#32
  let c9_i32_36 : BitVec 32 := 9#32
  let v52 : BitVec 1 := Scalar.cmpi .eq v35 c9_i32_36
  let c6_i32_37 : BitVec 32 := 6#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c1_i32_33 : BitVec 32 := 1#32
  let c6_i32_30 : BitVec 32 := 6#32
  let v46 : BitVec 1 := Scalar.cmpi .eq v35 c6_i32_30
  let c5_i32_31 : BitVec 32 := 5#32
  let c5_i32_28 : BitVec 32 := 5#32
  let v44 : BitVec 1 := Scalar.cmpi .eq v35 c5_i32_28
  let c9_i32_29 : BitVec 32 := 9#32
  let c4_i32_26 : BitVec 32 := 4#32
  let v42 : BitVec 1 := Scalar.cmpi .eq v35 c4_i32_26
  let c13_i32_27 : BitVec 32 := 13#32
  let c3_i32_24 : BitVec 32 := 3#32
  let v40 : BitVec 1 := Scalar.cmpi .eq v35 c3_i32_24
  let c12_i32_25 : BitVec 32 := 12#32
  let c2_i32_22 : BitVec 32 := 2#32
  let v38 : BitVec 1 := Scalar.cmpi .eq v35 c2_i32_22
  let c8_i32_23 : BitVec 32 := 8#32
  let c1_i32_19 : BitVec 32 := 1#32
  let v36 : BitVec 1 := Scalar.cmpi .eq v35 c1_i32_19
  let c4_i32_20 : BitVec 32 := 4#32
  let c0_i32_21 : BitVec 32 := 0#32
  let v37 : BitVec 32 := Scalar.select v36 c4_i32_20 c0_i32_21
  let v39 : BitVec 32 := Scalar.select v38 c8_i32_23 v37
  let v41 : BitVec 32 := Scalar.select v40 c12_i32_25 v39
  let v43 : BitVec 32 := Scalar.select v42 c13_i32_27 v41
  let v45 : BitVec 32 := Scalar.select v44 c9_i32_29 v43
  let v47 : BitVec 32 := Scalar.select v46 c5_i32_31 v45
  let v49 : BitVec 32 := Scalar.select v48 c1_i32_33 v47
  let v51 : BitVec 32 := Scalar.select v50 c2_i32_35 v49
  let v53 : BitVec 32 := Scalar.select v52 c6_i32_37 v51
  let v55 : BitVec 32 := Scalar.select v54 c10_i32_39 v53
  let v57 : BitVec 32 := Scalar.select v56 c14_i32_41 v55
  let v59 : BitVec 32 := Scalar.select v58 c15_i32_43 v57
  let v61 : BitVec 32 := Scalar.select v60 c11_i32_45 v59
  let v63 : BitVec 32 := Scalar.select v62 c7_i32_47 v61
  let v65 : BitVec 32 := Scalar.select v64 c3_i32_49 v63
  let c1_i32_889 : BitVec 32 := 1#32
  let v1385 : BitVec 32 := Scalar.muli v65 c1_i32_889
  let v1386 : BitVec 32 := Scalar.addi c0_i32_890 v1385
  v1386.toNat
def k0_dev25 (d0 : Dev nD) : Nat :=
  let c0_i32_948 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c3_i32_82 : BitVec 32 := 3#32
  let c14_i32_79 : BitVec 32 := 14#32
  let v94 : BitVec 1 := Scalar.cmpi .eq v67 c14_i32_79
  let c7_i32_80 : BitVec 32 := 7#32
  let c13_i32_77 : BitVec 32 := 13#32
  let v92 : BitVec 1 := Scalar.cmpi .eq v67 c13_i32_77
  let c11_i32_78 : BitVec 32 := 11#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c1_i32_66 : BitVec 32 := 1#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c9_i32_62 : BitVec 32 := 9#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c13_i32_60 v73
  let v77 : BitVec 32 := Scalar.select v76 c9_i32_62 v75
  let v79 : BitVec 32 := Scalar.select v78 c5_i32_64 v77
  let v81 : BitVec 32 := Scalar.select v80 c1_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c15_i32_76 v89
  let v93 : BitVec 32 := Scalar.select v92 c11_i32_78 v91
  let v95 : BitVec 32 := Scalar.select v94 c7_i32_80 v93
  let v97 : BitVec 32 := Scalar.select v96 c3_i32_82 v95
  let c1_i32_947 : BitVec 32 := 1#32
  let v1463 : BitVec 32 := Scalar.muli v97 c1_i32_947
  let v1464 : BitVec 32 := Scalar.addi c0_i32_948 v1463
  v1464.toNat
def k0_dev26 (d0 : Dev nD) : Nat :=
  let c0_i32_954 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c3_i32_49 : BitVec 32 := 3#32
  let c14_i32_46 : BitVec 32 := 14#32
  let v62 : BitVec 1 := Scalar.cmpi .eq v35 c14_i32_46
  let c7_i32_47 : BitVec 32 := 7#32
  let c13_i32_44 : BitVec 32 := 13#32
  let v60 : BitVec 1 := Scalar.cmpi .eq v35 c13_i32_44
  let c11_i32_45 : BitVec 32 := 11#32
  let c12_i32_42 : BitVec 32 := 12#32
  let v58 : BitVec 1 := Scalar.cmpi .eq v35 c12_i32_42
  let c15_i32_43 : BitVec 32 := 15#32
  let c11_i32_40 : BitVec 32 := 11#32
  let v56 : BitVec 1 := Scalar.cmpi .eq v35 c11_i32_40
  let c14_i32_41 : BitVec 32 := 14#32
  let c10_i32_38 : BitVec 32 := 10#32
  let v54 : BitVec 1 := Scalar.cmpi .eq v35 c10_i32_38
  let c10_i32_39 : BitVec 32 := 10#32
  let c9_i32_36 : BitVec 32 := 9#32
  let v52 : BitVec 1 := Scalar.cmpi .eq v35 c9_i32_36
  let c6_i32_37 : BitVec 32 := 6#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c1_i32_33 : BitVec 32 := 1#32
  let c6_i32_30 : BitVec 32 := 6#32
  let v46 : BitVec 1 := Scalar.cmpi .eq v35 c6_i32_30
  let c5_i32_31 : BitVec 32 := 5#32
  let c5_i32_28 : BitVec 32 := 5#32
  let v44 : BitVec 1 := Scalar.cmpi .eq v35 c5_i32_28
  let c9_i32_29 : BitVec 32 := 9#32
  let c4_i32_26 : BitVec 32 := 4#32
  let v42 : BitVec 1 := Scalar.cmpi .eq v35 c4_i32_26
  let c13_i32_27 : BitVec 32 := 13#32
  let c3_i32_24 : BitVec 32 := 3#32
  let v40 : BitVec 1 := Scalar.cmpi .eq v35 c3_i32_24
  let c12_i32_25 : BitVec 32 := 12#32
  let c2_i32_22 : BitVec 32 := 2#32
  let v38 : BitVec 1 := Scalar.cmpi .eq v35 c2_i32_22
  let c8_i32_23 : BitVec 32 := 8#32
  let c1_i32_19 : BitVec 32 := 1#32
  let v36 : BitVec 1 := Scalar.cmpi .eq v35 c1_i32_19
  let c4_i32_20 : BitVec 32 := 4#32
  let c0_i32_21 : BitVec 32 := 0#32
  let v37 : BitVec 32 := Scalar.select v36 c4_i32_20 c0_i32_21
  let v39 : BitVec 32 := Scalar.select v38 c8_i32_23 v37
  let v41 : BitVec 32 := Scalar.select v40 c12_i32_25 v39
  let v43 : BitVec 32 := Scalar.select v42 c13_i32_27 v41
  let v45 : BitVec 32 := Scalar.select v44 c9_i32_29 v43
  let v47 : BitVec 32 := Scalar.select v46 c5_i32_31 v45
  let v49 : BitVec 32 := Scalar.select v48 c1_i32_33 v47
  let v51 : BitVec 32 := Scalar.select v50 c2_i32_35 v49
  let v53 : BitVec 32 := Scalar.select v52 c6_i32_37 v51
  let v55 : BitVec 32 := Scalar.select v54 c10_i32_39 v53
  let v57 : BitVec 32 := Scalar.select v56 c14_i32_41 v55
  let v59 : BitVec 32 := Scalar.select v58 c15_i32_43 v57
  let v61 : BitVec 32 := Scalar.select v60 c11_i32_45 v59
  let v63 : BitVec 32 := Scalar.select v62 c7_i32_47 v61
  let v65 : BitVec 32 := Scalar.select v64 c3_i32_49 v63
  let c1_i32_953 : BitVec 32 := 1#32
  let v1471 : BitVec 32 := Scalar.muli v65 c1_i32_953
  let v1472 : BitVec 32 := Scalar.addi c0_i32_954 v1471
  v1472.toNat
def k0_dev27 (d0 : Dev nD) : Nat :=
  let c0_i32_1012 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c3_i32_82 : BitVec 32 := 3#32
  let c14_i32_79 : BitVec 32 := 14#32
  let v94 : BitVec 1 := Scalar.cmpi .eq v67 c14_i32_79
  let c7_i32_80 : BitVec 32 := 7#32
  let c13_i32_77 : BitVec 32 := 13#32
  let v92 : BitVec 1 := Scalar.cmpi .eq v67 c13_i32_77
  let c11_i32_78 : BitVec 32 := 11#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c1_i32_66 : BitVec 32 := 1#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c9_i32_62 : BitVec 32 := 9#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c13_i32_60 v73
  let v77 : BitVec 32 := Scalar.select v76 c9_i32_62 v75
  let v79 : BitVec 32 := Scalar.select v78 c5_i32_64 v77
  let v81 : BitVec 32 := Scalar.select v80 c1_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c15_i32_76 v89
  let v93 : BitVec 32 := Scalar.select v92 c11_i32_78 v91
  let v95 : BitVec 32 := Scalar.select v94 c7_i32_80 v93
  let v97 : BitVec 32 := Scalar.select v96 c3_i32_82 v95
  let c1_i32_1011 : BitVec 32 := 1#32
  let v1549 : BitVec 32 := Scalar.muli v97 c1_i32_1011
  let v1550 : BitVec 32 := Scalar.addi c0_i32_1012 v1549
  v1550.toNat
def k0_dev28 (d0 : Dev nD) : Nat :=
  let c0_i32_1018 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c3_i32_49 : BitVec 32 := 3#32
  let c14_i32_46 : BitVec 32 := 14#32
  let v62 : BitVec 1 := Scalar.cmpi .eq v35 c14_i32_46
  let c7_i32_47 : BitVec 32 := 7#32
  let c13_i32_44 : BitVec 32 := 13#32
  let v60 : BitVec 1 := Scalar.cmpi .eq v35 c13_i32_44
  let c11_i32_45 : BitVec 32 := 11#32
  let c12_i32_42 : BitVec 32 := 12#32
  let v58 : BitVec 1 := Scalar.cmpi .eq v35 c12_i32_42
  let c15_i32_43 : BitVec 32 := 15#32
  let c11_i32_40 : BitVec 32 := 11#32
  let v56 : BitVec 1 := Scalar.cmpi .eq v35 c11_i32_40
  let c14_i32_41 : BitVec 32 := 14#32
  let c10_i32_38 : BitVec 32 := 10#32
  let v54 : BitVec 1 := Scalar.cmpi .eq v35 c10_i32_38
  let c10_i32_39 : BitVec 32 := 10#32
  let c9_i32_36 : BitVec 32 := 9#32
  let v52 : BitVec 1 := Scalar.cmpi .eq v35 c9_i32_36
  let c6_i32_37 : BitVec 32 := 6#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c1_i32_33 : BitVec 32 := 1#32
  let c6_i32_30 : BitVec 32 := 6#32
  let v46 : BitVec 1 := Scalar.cmpi .eq v35 c6_i32_30
  let c5_i32_31 : BitVec 32 := 5#32
  let c5_i32_28 : BitVec 32 := 5#32
  let v44 : BitVec 1 := Scalar.cmpi .eq v35 c5_i32_28
  let c9_i32_29 : BitVec 32 := 9#32
  let c4_i32_26 : BitVec 32 := 4#32
  let v42 : BitVec 1 := Scalar.cmpi .eq v35 c4_i32_26
  let c13_i32_27 : BitVec 32 := 13#32
  let c3_i32_24 : BitVec 32 := 3#32
  let v40 : BitVec 1 := Scalar.cmpi .eq v35 c3_i32_24
  let c12_i32_25 : BitVec 32 := 12#32
  let c2_i32_22 : BitVec 32 := 2#32
  let v38 : BitVec 1 := Scalar.cmpi .eq v35 c2_i32_22
  let c8_i32_23 : BitVec 32 := 8#32
  let c1_i32_19 : BitVec 32 := 1#32
  let v36 : BitVec 1 := Scalar.cmpi .eq v35 c1_i32_19
  let c4_i32_20 : BitVec 32 := 4#32
  let c0_i32_21 : BitVec 32 := 0#32
  let v37 : BitVec 32 := Scalar.select v36 c4_i32_20 c0_i32_21
  let v39 : BitVec 32 := Scalar.select v38 c8_i32_23 v37
  let v41 : BitVec 32 := Scalar.select v40 c12_i32_25 v39
  let v43 : BitVec 32 := Scalar.select v42 c13_i32_27 v41
  let v45 : BitVec 32 := Scalar.select v44 c9_i32_29 v43
  let v47 : BitVec 32 := Scalar.select v46 c5_i32_31 v45
  let v49 : BitVec 32 := Scalar.select v48 c1_i32_33 v47
  let v51 : BitVec 32 := Scalar.select v50 c2_i32_35 v49
  let v53 : BitVec 32 := Scalar.select v52 c6_i32_37 v51
  let v55 : BitVec 32 := Scalar.select v54 c10_i32_39 v53
  let v57 : BitVec 32 := Scalar.select v56 c14_i32_41 v55
  let v59 : BitVec 32 := Scalar.select v58 c15_i32_43 v57
  let v61 : BitVec 32 := Scalar.select v60 c11_i32_45 v59
  let v63 : BitVec 32 := Scalar.select v62 c7_i32_47 v61
  let v65 : BitVec 32 := Scalar.select v64 c3_i32_49 v63
  let c1_i32_1017 : BitVec 32 := 1#32
  let v1557 : BitVec 32 := Scalar.muli v65 c1_i32_1017
  let v1558 : BitVec 32 := Scalar.addi c0_i32_1018 v1557
  v1558.toNat
def k0_dev29 (d0 : Dev nD) : Nat :=
  let c0_i32_1076 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c3_i32_82 : BitVec 32 := 3#32
  let c14_i32_79 : BitVec 32 := 14#32
  let v94 : BitVec 1 := Scalar.cmpi .eq v67 c14_i32_79
  let c7_i32_80 : BitVec 32 := 7#32
  let c13_i32_77 : BitVec 32 := 13#32
  let v92 : BitVec 1 := Scalar.cmpi .eq v67 c13_i32_77
  let c11_i32_78 : BitVec 32 := 11#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c1_i32_66 : BitVec 32 := 1#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c9_i32_62 : BitVec 32 := 9#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c13_i32_60 v73
  let v77 : BitVec 32 := Scalar.select v76 c9_i32_62 v75
  let v79 : BitVec 32 := Scalar.select v78 c5_i32_64 v77
  let v81 : BitVec 32 := Scalar.select v80 c1_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c15_i32_76 v89
  let v93 : BitVec 32 := Scalar.select v92 c11_i32_78 v91
  let v95 : BitVec 32 := Scalar.select v94 c7_i32_80 v93
  let v97 : BitVec 32 := Scalar.select v96 c3_i32_82 v95
  let c1_i32_1075 : BitVec 32 := 1#32
  let v1635 : BitVec 32 := Scalar.muli v97 c1_i32_1075
  let v1636 : BitVec 32 := Scalar.addi c0_i32_1076 v1635
  v1636.toNat
def k0_dev30 (d0 : Dev nD) : Nat :=
  let c0_i32_1082 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c3_i32_49 : BitVec 32 := 3#32
  let c14_i32_46 : BitVec 32 := 14#32
  let v62 : BitVec 1 := Scalar.cmpi .eq v35 c14_i32_46
  let c7_i32_47 : BitVec 32 := 7#32
  let c13_i32_44 : BitVec 32 := 13#32
  let v60 : BitVec 1 := Scalar.cmpi .eq v35 c13_i32_44
  let c11_i32_45 : BitVec 32 := 11#32
  let c12_i32_42 : BitVec 32 := 12#32
  let v58 : BitVec 1 := Scalar.cmpi .eq v35 c12_i32_42
  let c15_i32_43 : BitVec 32 := 15#32
  let c11_i32_40 : BitVec 32 := 11#32
  let v56 : BitVec 1 := Scalar.cmpi .eq v35 c11_i32_40
  let c14_i32_41 : BitVec 32 := 14#32
  let c10_i32_38 : BitVec 32 := 10#32
  let v54 : BitVec 1 := Scalar.cmpi .eq v35 c10_i32_38
  let c10_i32_39 : BitVec 32 := 10#32
  let c9_i32_36 : BitVec 32 := 9#32
  let v52 : BitVec 1 := Scalar.cmpi .eq v35 c9_i32_36
  let c6_i32_37 : BitVec 32 := 6#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c1_i32_33 : BitVec 32 := 1#32
  let c6_i32_30 : BitVec 32 := 6#32
  let v46 : BitVec 1 := Scalar.cmpi .eq v35 c6_i32_30
  let c5_i32_31 : BitVec 32 := 5#32
  let c5_i32_28 : BitVec 32 := 5#32
  let v44 : BitVec 1 := Scalar.cmpi .eq v35 c5_i32_28
  let c9_i32_29 : BitVec 32 := 9#32
  let c4_i32_26 : BitVec 32 := 4#32
  let v42 : BitVec 1 := Scalar.cmpi .eq v35 c4_i32_26
  let c13_i32_27 : BitVec 32 := 13#32
  let c3_i32_24 : BitVec 32 := 3#32
  let v40 : BitVec 1 := Scalar.cmpi .eq v35 c3_i32_24
  let c12_i32_25 : BitVec 32 := 12#32
  let c2_i32_22 : BitVec 32 := 2#32
  let v38 : BitVec 1 := Scalar.cmpi .eq v35 c2_i32_22
  let c8_i32_23 : BitVec 32 := 8#32
  let c1_i32_19 : BitVec 32 := 1#32
  let v36 : BitVec 1 := Scalar.cmpi .eq v35 c1_i32_19
  let c4_i32_20 : BitVec 32 := 4#32
  let c0_i32_21 : BitVec 32 := 0#32
  let v37 : BitVec 32 := Scalar.select v36 c4_i32_20 c0_i32_21
  let v39 : BitVec 32 := Scalar.select v38 c8_i32_23 v37
  let v41 : BitVec 32 := Scalar.select v40 c12_i32_25 v39
  let v43 : BitVec 32 := Scalar.select v42 c13_i32_27 v41
  let v45 : BitVec 32 := Scalar.select v44 c9_i32_29 v43
  let v47 : BitVec 32 := Scalar.select v46 c5_i32_31 v45
  let v49 : BitVec 32 := Scalar.select v48 c1_i32_33 v47
  let v51 : BitVec 32 := Scalar.select v50 c2_i32_35 v49
  let v53 : BitVec 32 := Scalar.select v52 c6_i32_37 v51
  let v55 : BitVec 32 := Scalar.select v54 c10_i32_39 v53
  let v57 : BitVec 32 := Scalar.select v56 c14_i32_41 v55
  let v59 : BitVec 32 := Scalar.select v58 c15_i32_43 v57
  let v61 : BitVec 32 := Scalar.select v60 c11_i32_45 v59
  let v63 : BitVec 32 := Scalar.select v62 c7_i32_47 v61
  let v65 : BitVec 32 := Scalar.select v64 c3_i32_49 v63
  let c1_i32_1081 : BitVec 32 := 1#32
  let v1643 : BitVec 32 := Scalar.muli v65 c1_i32_1081
  let v1644 : BitVec 32 := Scalar.addi c0_i32_1082 v1643
  v1644.toNat
def k0_dev31 (d0 : Dev nD) : Nat :=
  let c0_i32_1140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_50 : BitVec 32 := 1#32
  let v66 : BitVec 32 := Scalar.addi v32 c1_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c3_i32_82 : BitVec 32 := 3#32
  let c14_i32_79 : BitVec 32 := 14#32
  let v94 : BitVec 1 := Scalar.cmpi .eq v67 c14_i32_79
  let c7_i32_80 : BitVec 32 := 7#32
  let c13_i32_77 : BitVec 32 := 13#32
  let v92 : BitVec 1 := Scalar.cmpi .eq v67 c13_i32_77
  let c11_i32_78 : BitVec 32 := 11#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c14_i32_74 : BitVec 32 := 14#32
  let c10_i32_71 : BitVec 32 := 10#32
  let v86 : BitVec 1 := Scalar.cmpi .eq v67 c10_i32_71
  let c10_i32_72 : BitVec 32 := 10#32
  let c9_i32_69 : BitVec 32 := 9#32
  let v84 : BitVec 1 := Scalar.cmpi .eq v67 c9_i32_69
  let c6_i32_70 : BitVec 32 := 6#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c1_i32_66 : BitVec 32 := 1#32
  let c6_i32_63 : BitVec 32 := 6#32
  let v78 : BitVec 1 := Scalar.cmpi .eq v67 c6_i32_63
  let c5_i32_64 : BitVec 32 := 5#32
  let c5_i32_61 : BitVec 32 := 5#32
  let v76 : BitVec 1 := Scalar.cmpi .eq v67 c5_i32_61
  let c9_i32_62 : BitVec 32 := 9#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c12_i32_58 : BitVec 32 := 12#32
  let c2_i32_55 : BitVec 32 := 2#32
  let v70 : BitVec 1 := Scalar.cmpi .eq v67 c2_i32_55
  let c8_i32_56 : BitVec 32 := 8#32
  let c1_i32_52 : BitVec 32 := 1#32
  let v68 : BitVec 1 := Scalar.cmpi .eq v67 c1_i32_52
  let c4_i32_53 : BitVec 32 := 4#32
  let c0_i32_54 : BitVec 32 := 0#32
  let v69 : BitVec 32 := Scalar.select v68 c4_i32_53 c0_i32_54
  let v71 : BitVec 32 := Scalar.select v70 c8_i32_56 v69
  let v73 : BitVec 32 := Scalar.select v72 c12_i32_58 v71
  let v75 : BitVec 32 := Scalar.select v74 c13_i32_60 v73
  let v77 : BitVec 32 := Scalar.select v76 c9_i32_62 v75
  let v79 : BitVec 32 := Scalar.select v78 c5_i32_64 v77
  let v81 : BitVec 32 := Scalar.select v80 c1_i32_66 v79
  let v83 : BitVec 32 := Scalar.select v82 c2_i32_68 v81
  let v85 : BitVec 32 := Scalar.select v84 c6_i32_70 v83
  let v87 : BitVec 32 := Scalar.select v86 c10_i32_72 v85
  let v89 : BitVec 32 := Scalar.select v88 c14_i32_74 v87
  let v91 : BitVec 32 := Scalar.select v90 c15_i32_76 v89
  let v93 : BitVec 32 := Scalar.select v92 c11_i32_78 v91
  let v95 : BitVec 32 := Scalar.select v94 c7_i32_80 v93
  let v97 : BitVec 32 := Scalar.select v96 c3_i32_82 v95
  let c1_i32_1139 : BitVec 32 := 1#32
  let v1721 : BitVec 32 := Scalar.muli v97 c1_i32_1139
  let v1722 : BitVec 32 := Scalar.addi c0_i32_1140 v1721
  v1722.toNat
def k0_dev32 (d0 : Dev nD) : Nat :=
  let c0_i32_1146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c16_i32_16 : BitVec 32 := 16#32
  let v33 : BitVec 32 := Scalar.addi v32 c16_i32_16
  let c1_i32_17 : BitVec 32 := 1#32
  let v34 : BitVec 32 := Scalar.subi v33 c1_i32_17
  let c16_i32_18 : BitVec 32 := 16#32
  let v35 : BitVec 32 := Scalar.remsi v34 c16_i32_18
  let c15_i32_48 : BitVec 32 := 15#32
  let v64 : BitVec 1 := Scalar.cmpi .eq v35 c15_i32_48
  let c3_i32_49 : BitVec 32 := 3#32
  let c14_i32_46 : BitVec 32 := 14#32
  let v62 : BitVec 1 := Scalar.cmpi .eq v35 c14_i32_46
  let c7_i32_47 : BitVec 32 := 7#32
  let c13_i32_44 : BitVec 32 := 13#32
  let v60 : BitVec 1 := Scalar.cmpi .eq v35 c13_i32_44
  let c11_i32_45 : BitVec 32 := 11#32
  let c12_i32_42 : BitVec 32 := 12#32
  let v58 : BitVec 1 := Scalar.cmpi .eq v35 c12_i32_42
  let c15_i32_43 : BitVec 32 := 15#32
  let c11_i32_40 : BitVec 32 := 11#32
  let v56 : BitVec 1 := Scalar.cmpi .eq v35 c11_i32_40
  let c14_i32_41 : BitVec 32 := 14#32
  let c10_i32_38 : BitVec 32 := 10#32
  let v54 : BitVec 1 := Scalar.cmpi .eq v35 c10_i32_38
  let c10_i32_39 : BitVec 32 := 10#32
  let c9_i32_36 : BitVec 32 := 9#32
  let v52 : BitVec 1 := Scalar.cmpi .eq v35 c9_i32_36
  let c6_i32_37 : BitVec 32 := 6#32
  let c8_i32_34 : BitVec 32 := 8#32
  let v50 : BitVec 1 := Scalar.cmpi .eq v35 c8_i32_34
  let c2_i32_35 : BitVec 32 := 2#32
  let c7_i32_32 : BitVec 32 := 7#32
  let v48 : BitVec 1 := Scalar.cmpi .eq v35 c7_i32_32
  let c1_i32_33 : BitVec 32 := 1#32
  let c6_i32_30 : BitVec 32 := 6#32
  let v46 : BitVec 1 := Scalar.cmpi .eq v35 c6_i32_30
  let c5_i32_31 : BitVec 32 := 5#32
  let c5_i32_28 : BitVec 32 := 5#32
  let v44 : BitVec 1 := Scalar.cmpi .eq v35 c5_i32_28
  let c9_i32_29 : BitVec 32 := 9#32
  let c4_i32_26 : BitVec 32 := 4#32
  let v42 : BitVec 1 := Scalar.cmpi .eq v35 c4_i32_26
  let c13_i32_27 : BitVec 32 := 13#32
  let c3_i32_24 : BitVec 32 := 3#32
  let v40 : BitVec 1 := Scalar.cmpi .eq v35 c3_i32_24
  let c12_i32_25 : BitVec 32 := 12#32
  let c2_i32_22 : BitVec 32 := 2#32
  let v38 : BitVec 1 := Scalar.cmpi .eq v35 c2_i32_22
  let c8_i32_23 : BitVec 32 := 8#32
  let c1_i32_19 : BitVec 32 := 1#32
  let v36 : BitVec 1 := Scalar.cmpi .eq v35 c1_i32_19
  let c4_i32_20 : BitVec 32 := 4#32
  let c0_i32_21 : BitVec 32 := 0#32
  let v37 : BitVec 32 := Scalar.select v36 c4_i32_20 c0_i32_21
  let v39 : BitVec 32 := Scalar.select v38 c8_i32_23 v37
  let v41 : BitVec 32 := Scalar.select v40 c12_i32_25 v39
  let v43 : BitVec 32 := Scalar.select v42 c13_i32_27 v41
  let v45 : BitVec 32 := Scalar.select v44 c9_i32_29 v43
  let v47 : BitVec 32 := Scalar.select v46 c5_i32_31 v45
  let v49 : BitVec 32 := Scalar.select v48 c1_i32_33 v47
  let v51 : BitVec 32 := Scalar.select v50 c2_i32_35 v49
  let v53 : BitVec 32 := Scalar.select v52 c6_i32_37 v51
  let v55 : BitVec 32 := Scalar.select v54 c10_i32_39 v53
  let v57 : BitVec 32 := Scalar.select v56 c14_i32_41 v55
  let v59 : BitVec 32 := Scalar.select v58 c15_i32_43 v57
  let v61 : BitVec 32 := Scalar.select v60 c11_i32_45 v59
  let v63 : BitVec 32 := Scalar.select v62 c7_i32_47 v61
  let v65 : BitVec 32 := Scalar.select v64 c3_i32_49 v63
  let c1_i32_1145 : BitVec 32 := 1#32
  let v1729 : BitVec 32 := Scalar.muli v65 c1_i32_1145
  let v1730 : BitVec 32 := Scalar.addi c0_i32_1146 v1729
  v1730.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x512 : Shape := ⟨2, ![2048, 512]⟩
abbrev S512x128 : Shape := ⟨2, ![512, 128]⟩
abbrev S2048x1 : Shape := ⟨2, ![2048, 1]⟩
abbrev S128x512x1024 : Shape := ⟨3, ![128, 512, 1024]⟩
abbrev S2048 : Shape := ⟨1, ![2048]⟩
abbrev S1x2048 : Shape := ⟨2, ![1, 2048]⟩
abbrev S2048x2048 : Shape := ⟨2, ![2048, 2048]⟩
abbrev S_ : Shape := ⟨0, ![]⟩
abbrev S2048x512x1024 : Shape := ⟨3, ![2048, 512, 1024]⟩
abbrev S2048x1024 : Shape := ⟨2, ![2048, 1024]⟩

abbrev nBuf : Space → Nat
  | .hbm => 42
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x128, .bf16⟩
  | .hbm, ⟨2, _⟩ => ⟨S2048x1, .i32⟩
  | .hbm, ⟨3, _⟩ => ⟨S128x512x1024, .bf16⟩
  | .hbm, ⟨4, _⟩ => ⟨S2048, .i32⟩
  | .hbm, ⟨5, _⟩ => ⟨S2048, .i32⟩
  | .hbm, ⟨6, _⟩ => ⟨S1x2048, .i32⟩
  | .hbm, ⟨7, _⟩ => ⟨S2048x1, .i32⟩
  | .hbm, ⟨8, _⟩ => ⟨S2048x2048, .i32⟩
  | .hbm, ⟨9, _⟩ => ⟨S2048x2048, .i32⟩
  | .hbm, ⟨10, _⟩ => ⟨S2048x2048, .i1⟩
  | .hbm, ⟨11, _⟩ => ⟨S1x2048, .i32⟩
  | .hbm, ⟨12, _⟩ => ⟨S2048x1, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S2048x2048, .i1⟩
  | .hbm, ⟨17, _⟩ => ⟨S2048x2048, .i32⟩
  | .hbm, ⟨18, _⟩ => ⟨S_, .i32⟩
  | .hbm, ⟨19, _⟩ => ⟨S2048, .i32⟩
  | .hbm, ⟨20, _⟩ => ⟨S2048x512, .f32⟩
  | .hbm, ⟨21, _⟩ => ⟨S128x512x1024, .f32⟩
  | .hbm, ⟨22, _⟩ => ⟨S_, .i32⟩
  | .hbm, ⟨23, _⟩ => ⟨S2048, .i32⟩
  | .hbm, ⟨24, _⟩ => ⟨S2048, .i1⟩
  | .hbm, ⟨25, _⟩ => ⟨S_, .i32⟩
  | .hbm, ⟨26, _⟩ => ⟨S2048, .i32⟩
  | .hbm, ⟨27, _⟩ => ⟨S2048, .i32⟩
  | .hbm, ⟨28, _⟩ => ⟨S2048, .i32⟩
  | .hbm, ⟨29, _⟩ => ⟨S2048x1, .i32⟩
  | .hbm, ⟨30, _⟩ => ⟨S2048x512x1024, .f32⟩
  | .hbm, ⟨31, _⟩ => ⟨S2048x1024, .f32⟩
  | .hbm, ⟨32, _⟩ => ⟨S_, .i32⟩
  | .hbm, ⟨33, _⟩ => ⟨S2048, .i32⟩
  | .hbm, ⟨34, _⟩ => ⟨S2048, .i1⟩
  | .hbm, ⟨35, _⟩ => ⟨S2048x1, .i1⟩
  | .hbm, ⟨36, _⟩ => ⟨S_, .f32⟩
  | .hbm, ⟨37, _⟩ => ⟨S_, .f32⟩
  | .hbm, ⟨38, _⟩ => ⟨S2048x1024, .i1⟩
  | .hbm, ⟨39, _⟩ => ⟨S2048x1024, .f32⟩
  | .hbm, ⟨40, _⟩ => ⟨S2048x1024, .f32⟩
  | .hbm, ⟨41, _⟩ => ⟨S2048x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_v17 : Ref sig .tc := ⟨.hbm, 23, rfl⟩
abbrev main_v18 : Ref sig .tc := ⟨.hbm, 24, rfl⟩
abbrev main_c_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Proof.Body.lean ====
/-
# The kernel's body, hop by hop

The printed body cuts its statements into parts of sixty, whose ends fall anywhere in a hop. Here the same
statements are grouped as the source groups them — the handshake, the ranks, the device's own block of products,
and per hop of the ring the two transfers started, the four waits, and the two blocks added — each group one
definition over the hop's number. `body_eq` says the grouping is the printed body.
-/
module

public import proofs.«01_k».proof.Proof.Gen.KernelIdeal
public import proofs.«01_k».proof.Proof.Gen.KernelIdeal.Skeleton

@[expose] public section

noncomputable section

namespace Cert.Proof.Ring

open Cert.KernelIdeal Cert.KernelIdeal.Gen

open Idealize.ShloMosaic Idealize.SL.Sem

variable {F : FTy → Type} [FloatOps F]

/-! ## The values -/

/-- The slot each token goes to, as the kernel computes it from the routing column. -/
def gslOf (F : FTy → Type) [FloatOps F] (v103 : IVec S2048x1 32) : IVec S2048x1 32 :=
  let v104 := k0_pay3 (F := F) v103
  let v107 := k0_pay4 (F := F) v103
  let v110 := k0_pay5 (F := F) v103
  let v116 := k0_pay6 (F := F)
  let v118 := k0_pay7 (F := F) v103
  let v119 := k0_pay8 (F := F) v103
  let v121 := k0_pay9 (F := F) v103
  let v122 := k0_pay10 (F := F) v103
  let v123 := k0_pay11 (F := F) v103
  let v124 := k0_pay12 v116 v123
  let v125 := k0_pay13 v116 v123
  let v127 := k0_pay14 v110 v116
  let v128 := k0_pay15 v110 v116
  let v130 := k0_pay16 v110 v116
  let v131 := k0_pay17 v110 v116
  let v133 := k0_pay18 v110 v116
  let v134 := k0_pay19 v110 v116
  let v136 := k0_pay20 v110 v116
  let v137 := k0_pay21 v110 v116
  let v139 := k0_pay22 v110 v116
  let v140 := k0_pay23 v110 v116
  let v142 := k0_pay24 v110 v116
  let v143 := k0_pay25 v110 v116
  let v145 := k0_pay26 v110 v116
  let v146 := k0_pay27 v110 v116
  let v148 := k0_pay28 v110 v116
  let v149 := k0_pay29 v110 v116
  let v151 := k0_pay30 v110 v116
  let v152 := k0_pay31 v110 v116
  let v154 := k0_pay32 v110 v116
  let v155 := k0_pay33 v110 v116
  let v157 := k0_pay34 v110 v116
  let v158 := k0_pay35 v110 v116
  let v160 := k0_pay36 v110 v116
  let v161 := k0_pay37 v110 v116
  let v163 := k0_pay38 v110 v116
  let v164 := k0_pay39 (F := F)
  let v166 := k0_pay40 v118
  let v167 := k0_pay41 v107
  let cst_107 : F .f32 := Scalar.ofBits .f32 0x00000000#32
  let v171 := k0_pay42 v166 v167 cst_107
  let v181 := k0_pay44 v107 v119 v121 v164
  let v191 := k0_pay46 v107 v119 v122 v124 v164
  let v201 := k0_pay48 v107 v119 v122 v125 v127 v164
  let v211 := k0_pay50 v107 v119 v122 v125 v128 v130 v164
  let v212 := k0_pay51 v119 v122 v125 v128 v131 v164
  let v213 := k0_pay52 (F := F)
  let v221 := k0_pay54 v107 v133 v212 v213
  let v231 := k0_pay56 v107 v134 v136 v212 v213
  let v241 := k0_pay58 v107 v134 v137 v139 v212 v213
  let v251 := k0_pay60 v107 v134 v137 v140 v142 v212 v213
  let v254 := k0_pay61 v134 v137 v140 v143 v212 v213
  let v259 := k0_pay62 v107 v134 v137 v140 v143 v145 v212 v213
  let v261 := k0_pay63 v259
  let v271 := k0_pay65 v107 v146 v148 v254
  let v281 := k0_pay67 v107 v146 v149 v151 v254
  let v291 := k0_pay69 v107 v146 v149 v152 v154 v254
  let v301 := k0_pay71 v107 v146 v149 v152 v155 v157 v254
  let v304 := k0_pay72 v146 v149 v152 v155 v158 v254
  let v306 := k0_pay73 v146 v149 v152 v155 v158 v160 v254
  let v324 := k0_pay74 v107 v161 v163 v171 v181 v191 v201 v211 v221 v231 v241 v251 v261 v271 v281 v291 v301 v304 v306
  let v326 := k0_pay75 v107 v161 v163 v171 v181 v191 v201 v211 v221 v231 v241 v251 v261 v271 v281 v291 v301 v304 v306
  let v350 := k0_pay76 v104
  let v351 := k0_pay77
  let v391 := k0_pay78 v350 v351
  let v417 := k0_pay79 v350 v391
  let v421 := k0_pay80 v104
  let v430 := k0_pay81 v104
  let v432 := k0_pay82 v104
  k0_pay83 v324 v326 v417 v421 v430 v432

/-- The one-hot matrix of the slots of one block: column `s` of row `t` says that token `t` has slot `s` of
    the block numbered by the word `kw`. -/
def oneHot (gsl : IVec S2048x1 32) (kw : BitVec 32) : FVec F S2048x128 .bf16 :=
  truncf .bf16 (sitofp .f32 (extui 32 (cmpi .eq (broadcastTo S2048x128 gsl broadcasts_S2048x1_S2048x128)
    (addi (iota .tc S2048x128 32 [1] iota_S2048x128_d1_w32) (broadcast S2048x128 (Scalar.muli kw 128#32))))
    natLt_1_32)) bitsLt_bf16_f32

/-- The tokens' rows gathered into the block's slots. -/
def gathered (p : FVec F S2048x128 .bf16) (x : Vec F S2048x512 .bf16) : FVec F S128x512 .f32 :=
  matmul dot_S2048x128_S2048x512_S128x512_0_0_1_1_n_n none (extf .f32 p bitsLt_bf16_f32)
    (shapeCast S2048x512 x shapeCasts_S2048x512_S2048x512) (constant S128x512 .f32 0x00000000#32)

theorem slices_rows : ∀ le : Fin 8, S128x512.Slices ![16 * le.val, 0] S16x512 := by decide
theorem inb_weights : ∀ le : Fin 8, ∀ a, (![le.val, 0, 0] : Fin 3 → Nat) a + S1x512x1024.size a ≤ S8x512x1024.size a := by decide
theorem inb_sem : ∀ r : Fin 15, ∀ a, (![r.val] : Fin 1 → Nat) a + S1.size a ≤ S15.size a := by decide

/-- The products of one expert: its sixteen slots' rows times its weights. -/
def expertRows (xg : FVec F S128x512 .f32) (le : Fin 8) (w : Vec F S1x512x1024 .bf16) : FVec F S16x1024 .bf16 :=
  shapeCast S16x1024 (truncf .bf16 (matmul dot_S16x512_S512x1024_S16x1024_1_0_0_1_n_n none
    (extractStridedSlice S16x512 ![16 * le.val, 0] xg (slices_rows le))
    (shapeCast S512x1024 w shapeCasts_S1x512x1024_S512x1024) (constant S16x1024 .f32 0x00000000#32))
    bitsLt_bf16_f32) shapeCasts_S16x1024_S16x1024

/-- The rows a block of products puts at the tokens. -/
def placed (p : FVec F S2048x128 .bf16) (blk : Vec F S128x512 .bf16) : FVec F S2048x512 .bf16 :=
  truncf .bf16 (matmul dot_S2048x128_S128x512_S2048x512_1_0_0_1_n_n none p blk
    (constant S2048x512 .f32 0x00000000#32)) bitsLt_bf16_f32

/-- One half of the result with a block's rows added. -/
def added (gsl : IVec S2048x1 32) (kw : BitVec 32) (acc : Vec F S2048x512 .bf16) (blk : Vec F S128x512 .bf16) :
    FVec F S2048x512 .bf16 :=
  addf (shapeCast S2048x512 acc shapeCasts_S2048x512_S2048x512) (placed (oneHot gsl kw) blk)

/-- The position whose block hop `r` brings clockwise, as a word: `my - 1 - r` around the ring. -/
def loWord (my : BitVec 32) (r : Fin 15) : BitVec 32 :=
  Scalar.remsi (Scalar.addi (Scalar.subi (Scalar.subi my 1#32) (BitVec.ofNat 32 r.val)) 16#32) 16#32

/-- The position whose block hop `r` brings counterclockwise: `my + 1 + r` around the ring. -/
def hiWord (my : BitVec 32) (r : Fin 15) : BitVec 32 :=
  Scalar.remsi (Scalar.addi (Scalar.addi my 1#32) (BitVec.ofNat 32 r.val)) 16#32

/-! ## The groups of statements -/

section
variable (arg0 : Memref sig .tc .vmem S2048x512 .bf16) (harg0 : arg0.IsWhole) (arg1 : Memref sig .tc .vmem S2048x1 .i32) (harg1 : arg1.IsWhole) (arg2 : Memref sig .tc .vmem S8x512x1024 .bf16) (harg2 : arg2.IsWhole) (arg3 : Memref sig .tc .vmem S2048x1024 .bf16) (harg3 : arg3.IsWhole) (arg4 : Memref sig .tc .vmem S2048x1024 .bf16) (harg4 : arg4.IsWhole) (arg5 : DmaSems sig S15) (arg6 : DmaSems sig S15) (arg7 : DmaSems sig S15) (arg8 : DmaSems sig S15)

/-- One of a row of fifteen semaphores. -/
def semAt (a : DmaSems sig S15) (r : Fin 15) : DmaSem sig :=
  ((a.slice (Rect.unit (s := S15) ![r.val] S1.size (inb_sem r))).squeeze S_ squeezes_S1_S_).sem

/-- The half block hop `r` sends clockwise. -/
def cwPiece (d0 : Dev nD) (r : Fin 15) : Memref sig .tc .vmem S128x512 .bf16 :=
  arg4.slice (Rect.unit (s := S2048x1024) (k0_off2 d0 (BitVec.ofNat 32 r.val)) S128x512.size (k0_off2_inb d0 r)) (fun _ => rfl)

/-- The half block hop `r` sends counterclockwise. -/
def ccwPiece (d0 : Dev nD) (r : Fin 15) : Memref sig .tc .vmem S128x512 .bf16 :=
  arg4.slice (Rect.unit (s := S2048x1024) (k0_off3 d0 (BitVec.ofNat 32 r.val)) S128x512.size (k0_off3_inb d0 r)) (fun _ => rfl)

/-- Hop `r`'s two transfers started. -/
def hopSend (d0 : Dev nD) (r : Fin 15) : Prog (TpuEff nD τ sig (Elt F) Λ₀ .tc) PUnit := do
  Prog.lift (.enqueueDma (cwPiece arg4 d0 r) (.remote (Dev.tc (⟨k0_dev3 d0, k0_dev3_lt d0⟩ : Dev nD)) (cwPiece arg4 d0 r)
    (.dma (semAt arg5 r))) (.dma (semAt arg6 r)) (harg4.wordExact_slice rfl _ (k0_off2_wordsbf16 d0 r))
    (harg4.wordExact_slice rfl _ (k0_off2_wordsbf16 d0 r)) ⟨⟨rfl, Or.inl rfl⟩, trivial⟩)
  Prog.lift (.enqueueDma (ccwPiece arg4 d0 r) (.remote (Dev.tc (⟨k0_dev4 d0, k0_dev4_lt d0⟩ : Dev nD)) (ccwPiece arg4 d0 r)
    (.dma (semAt arg7 r))) (.dma (semAt arg8 r)) (harg4.wordExact_slice rfl _ (k0_off3_wordsbf16 d0 r))
    (harg4.wordExact_slice rfl _ (k0_off3_wordsbf16 d0 r)) ⟨⟨rfl, Or.inl rfl⟩, trivial⟩)

/-- Hop `r`'s four waits. -/
def hopWait (d0 : Dev nD) (r : Fin 15) : Prog (TpuEff nD τ sig (Elt F) Λ₀ .tc) PUnit := do
  Prog.lift (.waitDma2 (semAt arg5 r) (cwPiece arg4 d0 r) (cwPiece arg4 d0 r)
    (harg4.wordExact_slice rfl _ (k0_off2_wordsbf16 d0 r)) (harg4.wordExact_slice rfl _ (k0_off2_wordsbf16 d0 r)))
  Prog.lift (.waitDma2 (semAt arg6 r) (cwPiece arg4 d0 r) (cwPiece arg4 d0 r)
    (harg4.wordExact_slice rfl _ (k0_off2_wordsbf16 d0 r)) (harg4.wordExact_slice rfl _ (k0_off2_wordsbf16 d0 r)))
  Prog.lift (.waitDma2 (semAt arg7 r) (ccwPiece arg4 d0 r) (ccwPiece arg4 d0 r)
    (harg4.wordExact_slice rfl _ (k0_off3_wordsbf16 d0 r)) (harg4.wordExact_slice rfl _ (k0_off3_wordsbf16 d0 r)))
  Prog.lift (.waitDma2 (semAt arg8 r) (ccwPiece arg4 d0 r) (ccwPiece arg4 d0 r)
    (harg4.wordExact_slice rfl _ (k0_off3_wordsbf16 d0 r)) (harg4.wordExact_slice rfl _ (k0_off3_wordsbf16 d0 r)))

/-- A half of the result read. -/
def outLo : Prog (TpuEff nD τ sig (Elt F) Λ₀ .tc) (Vec F S2048x512 .bf16) :=
  Prog.lift (.load arg3 (Rect.unit (s := S2048x1024) ![0, 0] S2048x512.size inb_S2048x1024_S2048x512_0_0).toLoadRect (View.loadsAt_vmem h_S2048x512))
def outHi : Prog (TpuEff nD τ sig (Elt F) Λ₀ .tc) (Vec F S2048x512 .bf16) :=
  Prog.lift (.load arg3 (Rect.unit (s := S2048x1024) ![0, 512] S2048x512.size inb_S2048x1024_S2048x512_0_512).toLoadRect (View.loadsAt_vmem h_S2048x512))

/-- A half of the result written. -/
def setLo (v : Vec F S2048x512 .bf16) : Prog (TpuEff nD τ sig (Elt F) Λ₀ .tc) PUnit :=
  Prog.lift (.store arg3 (Rect.unit (s := S2048x1024) ![0, 0] S2048x512.size inb_S2048x1024_S2048x512_0_0) v Finset.univ (View.stores_vmem h_S2048x512 (harg3.storeExact_slice rfl _ packedbf16_S2048x1024_S2048x512_0_0) (fun _ => rfl)) (.inl rfl))
def setHi (v : Vec F S2048x512 .bf16) : Prog (TpuEff nD τ sig (Elt F) Λ₀ .tc) PUnit :=
  Prog.lift (.store arg3 (Rect.unit (s := S2048x1024) ![0, 512] S2048x512.size inb_S2048x1024_S2048x512_0_512) v Finset.univ (View.stores_vmem h_S2048x512 (harg3.storeExact_slice rfl _ packedbf16_S2048x1024_S2048x512_0_512) (fun _ => rfl)) (.inl rfl))

/-- The blocks hop `r` brought, added to the result's two halves. -/
def hopAdd (d0 : Dev nD) (my : BitVec 32) (gsl : IVec S2048x1 32) (r : Fin 15) : Prog (TpuEff nD τ sig (Elt F) Λ₀ .tc) PUnit := do
  let a : Vec F S2048x512 .bf16 ← outLo arg3
  let b : Vec F S128x512 .bf16 ← Prog.lift (.load arg4 (Rect.unit (s := S2048x1024) (k0_off6 d0 (BitVec.ofNat 32 r.val)) S128x512.size (k0_off6_inb d0 r)).toLoadRect (View.loadsAt_vmem h_S128x512))
  let _ : Vec F S2048x512 .bf16 ← outLo arg3
  setLo arg3 harg3 (added gsl (loWord my r) a b)
  let a' : Vec F S2048x512 .bf16 ← outHi arg3
  let b' : Vec F S128x512 .bf16 ← Prog.lift (.load arg4 (Rect.unit (s := S2048x1024) (k0_off7 d0 (BitVec.ofNat 32 r.val)) S128x512.size (k0_off7_inb d0 r)).toLoadRect (View.loadsAt_vmem h_S128x512))
  let _ : Vec F S2048x512 .bf16 ← outHi arg3
  setHi arg3 harg3 (added gsl (hiWord my r) a' b')

/-- The device's own block put at its tokens. -/
def ownAdd (d0 : Dev nD) (p : FVec F S2048x128 .bf16) : Prog (TpuEff nD τ sig (Elt F) Λ₀ .tc) PUnit := do
  let b : Vec F S128x512 .bf16 ← Prog.lift (.load arg4 (Rect.unit (s := S2048x1024) (k0_off4 d0) S128x512.size (k0_off4_inb d0)).toLoadRect (View.loadsAt_vmem h_S128x512))
  let _ : Vec F S2048x512 .bf16 ← outLo arg3
  setLo arg3 harg3 (placed p b)
  let b' : Vec F S128x512 .bf16 ← Prog.lift (.load arg4 (Rect.unit (s := S2048x1024) (k0_off5 d0) S128x512.size (k0_off5_inb d0)).toLoadRect (View.loadsAt_vmem h_S128x512))
  let _ : Vec F S2048x512 .bf16 ← outHi arg3
  setHi arg3 harg3 (placed p b')

/-- One expert's products computed and stored into the device's block. -/
def expertStore (d0 : Dev nD) (xg : FVec F S128x512 .f32) (le : Fin 8) : Prog (TpuEff nD τ sig (Elt F) Λ₀ .tc) PUnit := do
  let w : Vec F S1x512x1024 .bf16 ← Prog.lift (.load arg2 (Rect.unit (s := S8x512x1024) ![le.val, 0, 0] S1x512x1024.size (inb_weights le)).toLoadRect (View.loadsAt_vmem h_S1x512x1024))
  let _ : Vec F S16x1024 .bf16 ← Prog.lift (.load arg4 (Rect.unit (s := S2048x1024) (k0_off1 d0 (BitVec.ofNat 32 (16 * le.val))) S16x1024.size (k0_off1_inb d0 le)).toLoadRect (View.loadsAt_vmem h_S16x1024))
  Prog.lift (.store arg4 (Rect.unit (s := S2048x1024) (k0_off1 d0 (BitVec.ofNat 32 (16 * le.val))) S16x1024.size (k0_off1_inb d0 le)) (expertRows xg le w) Finset.univ (View.stores_vmem h_S16x1024 (harg4.storeExact_slice rfl _ (k0_off1_packedbf16 d0 le)) (fun _ => rfl)) (.inl rfl))

/-- The experts from number `8 - k` on. -/
def experts (d0 : Dev nD) (xg : FVec F S128x512 .f32) : (k : ℕ) → (k ≤ 8) → Prog (TpuEff nD τ sig (Elt F) Λ₀ .tc) PUnit
  | 0, _ => pure ⟨⟩
  | k + 1, h => do
    expertStore arg2 arg4 harg4 d0 xg ⟨7 - k, by omega⟩
    experts d0 xg k (by omega)

/-- The hops from number `15 - k` on: each starts, adds what the hop before it brought, and waits. -/
def hops (d0 : Dev nD) (my : BitVec 32) (gsl : IVec S2048x1 32) : (k : ℕ) → (k ≤ 14) → Prog (TpuEff nD τ sig (Elt F) Λ₀ .tc) PUnit
  | 0, _ => pure ⟨⟩
  | k + 1, h => do
    hopSend arg4 harg4 arg5 arg6 arg7 arg8 d0 ⟨14 - k, by omega⟩
    hopAdd arg3 harg3 arg4 d0 my gsl ⟨13 - k, by omega⟩
    hopWait arg4 harg4 arg5 arg6 arg7 arg8 d0 ⟨14 - k, by omega⟩
    hops d0 my gsl k (by omega)

/-- The ring: the first hop around the device's own block, the others, and what the last one brought. -/
def ring (d0 : Dev nD) (my : BitVec 32) (gsl : IVec S2048x1 32) : Prog (TpuEff nD τ sig (Elt F) Λ₀ .tc) PUnit := do
  hopSend arg4 harg4 arg5 arg6 arg7 arg8 d0 0
  ownAdd arg3 harg3 arg4 d0 (oneHot gsl my)
  hopWait arg4 harg4 arg5 arg6 arg7 arg8 d0 0
  hops arg3 harg3 arg4 harg4 arg5 arg6 arg7 arg8 d0 my gsl 14 (le_refl _)
  hopAdd arg3 harg3 arg4 d0 my gsl 14

/-- The device's position around the ring, as the word the kernel computes. -/
def posWord (d0 : Dev nD) : BitVec 32 :=
  let v2 : BitVec 32 := Scalar.remsi (Scalar.divsi (Dev.word d0) 1#32) 16#32
  Scalar.select (Scalar.cmpi .eq v2 15#32) 12#32 <| Scalar.select (Scalar.cmpi .eq v2 14#32) 11#32 <|
  Scalar.select (Scalar.cmpi .eq v2 13#32) 4#32 <| Scalar.select (Scalar.cmpi .eq v2 12#32) 3#32 <|
  Scalar.select (Scalar.cmpi .eq v2 11#32) 13#32 <| Scalar.select (Scalar.cmpi .eq v2 10#32) 10#32 <|
  Scalar.select (Scalar.cmpi .eq v2 9#32) 5#32 <| Scalar.select (Scalar.cmpi .eq v2 8#32) 2#32 <|
  Scalar.select (Scalar.cmpi .eq v2 7#32) 14#32 <| Scalar.select (Scalar.cmpi .eq v2 6#32) 9#32 <|
  Scalar.select (Scalar.cmpi .eq v2 5#32) 6#32 <| Scalar.select (Scalar.cmpi .eq v2 4#32) 1#32 <|
  Scalar.select (Scalar.cmpi .eq v2 3#32) 15#32 <| Scalar.select (Scalar.cmpi .eq v2 2#32) 8#32 <|
  Scalar.select (Scalar.cmpi .eq v2 1#32) 7#32 0#32

/-- The whole body. -/
def body : Prog (TpuEff nD τ sig (Elt F) Λ₀ .tc) PUnit := do
  let d0 : Dev nD ← Prog.lift .deviceId
  semSignalWord (⟨k0_dev1 d0, k0_dev1_lt d0⟩ : Dev nD) (SemArray.scalar (sig.barrier 0 rfl) : Sems sig S_).sem 1#32
  semSignalWord (⟨k0_dev2 d0, k0_dev2_lt d0⟩ : Dev nD) (SemArray.scalar (sig.barrier 0 rfl) : Sems sig S_).sem 1#32
  semWaitWord (SemArray.scalar (sig.barrier 0 rfl) : Sems sig S_).sem 2#32
  let ri : Vec F S2048x1 .i32 ← Prog.lift (.load arg1 (Rect.unit (s := S2048x1) ![0, 0] S2048x1.size inb_S2048x1_S2048x1_0_0).toLoadRect (View.loadsAt_vmem h_S2048x1))
  let x : Vec F S2048x512 .bf16 ← Prog.lift (.load arg0 (Rect.unit (s := S2048x512) ![0, 0] S2048x512.size inb_S2048x512_S2048x512_0_0).toLoadRect (View.loadsAt_vmem h_S2048x512))
  experts arg2 arg4 harg4 d0 (gathered (oneHot (gslOf F ri) (posWord d0)) x) 8 (le_refl _)
  ring arg3 harg3 arg4 harg4 arg5 arg6 arg7 arg8 d0 (posWord d0) (gslOf F ri)

end

end Cert.Proof.Ring

end
-- ==== Proof.Ring.lean ====
/-
The ring of sixteen devices, the half blocks of the gather buffer, and what they hold.

A device's position around the ring is `pos`; hop `n` handles, clockwise, the low half (columns below 512) of the block
at position `lb c n` (`n` back from the device's own) and, counterclockwise, the high half of the block at `hb c n`
(`n` on). Every device gathers the same buffer, `full`: block `b` is the block of products of the device at position `b`.
-/
module

public import proofs.«01_k».proof.Proof.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Proof.Ring

open Cert.KernelIdeal Cert.KernelIdeal.Gen
open Idealize.ShloMosaic
open Idealize.ShloMosaic.TcCoe
open Idealize.SL.Sem
open Idealize.ShloMosaic.Pipeline (Dat Cfg Window)

variable {F : FTy → Type} [FloatOps F]

/-! ## Positions -/

/-- The device at each position around the ring. -/
def ringOrder : Fin 16 → Dev nD := ![0, 4, 8, 12, 13, 9, 5, 1, 2, 6, 10, 14, 15, 11, 7, 3]
/-- A device's position. -/
def pos : Dev nD → Fin 16 := ![0, 7, 8, 15, 1, 6, 9, 14, 2, 5, 10, 13, 3, 4, 11, 12]

theorem ringOrder_pos (c : Dev nD) : ringOrder (pos c) = c := by revert c; decide
theorem pos_ringOrder (b : Fin 16) : pos (ringOrder b) = b := by revert b; decide

/-- The device after, and the device before. -/
def right (c : Dev nD) : Dev nD := ringOrder (pos c + 1)
def left (c : Dev nD) : Dev nD := ringOrder (pos c + 15)

theorem left_right (c : Dev nD) : left (right c) = c := by revert c; decide
theorem right_left (c : Dev nD) : right (left c) = c := by revert c; decide

theorem pos_right (c : Dev nD) : (pos (right c)).val = ((pos c).val + 1) % 16 := by revert c; decide
theorem pos_left (c : Dev nD) : (pos (left c)).val = ((pos c).val + 15) % 16 := by revert c; decide

def turn : Dev nD ≃ Dev nD := ⟨right, left, left_right, right_left⟩

theorem dev1_eq (c : Dev nD) : (⟨k0_dev1 c, k0_dev1_lt c⟩ : Dev nD) = left c := by revert c; decide +kernel
theorem dev2_eq (c : Dev nD) : (⟨k0_dev2 c, k0_dev2_lt c⟩ : Dev nD) = right c := by revert c; decide +kernel
theorem dev3_eq (c : Dev nD) : (⟨k0_dev3 c, k0_dev3_lt c⟩ : Dev nD) = right c := by revert c; decide +kernel
theorem dev4_eq (c : Dev nD) : (⟨k0_dev4 c, k0_dev4_lt c⟩ : Dev nD) = left c := by revert c; decide +kernel

/-- The position `n` back, and `n` on. -/
def lb (c : Dev nD) (n : ℕ) : Fin 16 := ⟨((pos c).val + 15 * n) % 16, Nat.mod_lt _ (by decide)⟩
def hb (c : Dev nD) (n : ℕ) : Fin 16 := ⟨((pos c).val + n) % 16, Nat.mod_lt _ (by decide)⟩

theorem lb_zero (c : Dev nD) : lb c 0 = pos c := Fin.ext (by show ((pos c).val + 15 * 0) % 16 = _; omega)
theorem hb_zero (c : Dev nD) : hb c 0 = pos c := Fin.ext (by show ((pos c).val + 0) % 16 = _; omega)
theorem lb_right (c : Dev nD) (n : ℕ) : lb (right c) (n + 1) = lb c n :=
  Fin.ext (by show ((pos (right c)).val + 15 * (n + 1)) % 16 = ((pos c).val + 15 * n) % 16; rw [pos_right]; omega)
theorem hb_left (c : Dev nD) (n : ℕ) : hb (left c) (n + 1) = hb c n :=
  Fin.ext (by show ((pos (left c)).val + (n + 1)) % 16 = ((pos c).val + n) % 16; rw [pos_left]; omega)
theorem lb_left (c : Dev nD) (n : ℕ) : lb (left c) n = lb c (n + 1) :=
  Fin.ext (by show ((pos (left c)).val + 15 * n) % 16 = ((pos c).val + 15 * (n + 1)) % 16; rw [pos_left]; omega)
theorem hb_right (c : Dev nD) (n : ℕ) : hb (right c) n = hb c (n + 1) :=
  Fin.ext (by show ((pos (right c)).val + n) % 16 = ((pos c).val + (n + 1)) % 16; rw [pos_right]; omega)

theorem lb_bij (c : Dev nD) : Function.Bijective fun n : Fin 16 => lb c n.val := by
  refine (Fintype.bijective_iff_injective_and_card _).mpr ⟨fun a b h => Fin.ext ?_, rfl⟩
  have := congrArg Fin.val h
  change ((pos c).val + 15 * a.val) % 16 = ((pos c).val + 15 * b.val) % 16 at this
  omega
theorem hb_bij (c : Dev nD) : Function.Bijective fun n : Fin 16 => hb c n.val := by
  refine (Fintype.bijective_iff_injective_and_card _).mpr ⟨fun a b h => Fin.ext ?_, rfl⟩
  have := congrArg Fin.val h
  change ((pos c).val + a.val) % 16 = ((pos c).val + b.val) % 16 at this
  omega

/-! ## The buffers -/

abbrev xM : Memref sig .tc .vmem S2048x512 .bf16 := Memref.whole cc0_stg0_0
abbrev riM : Memref sig .tc .vmem S2048x1 .i32 := Memref.whole cc0_stg1_0
abbrev wM : Memref sig .tc .vmem S8x512x1024 .bf16 := Memref.whole cc0_stg2_0
abbrev oM : Memref sig .tc .vmem S2048x1024 .bf16 := Memref.whole cc0_stg3_0
abbrev gM : Memref sig .tc .vmem S2048x1024 .bf16 := Memref.whole cc0_scratch0

/-- The contents of a [2048, 1024] buffer. -/
abbrev Wide (F : FTy → Type) : Type := (cc0_scratch0 : Ref sig .tc).ty.Contents (Elt F)

theorem piece_inb (b : Fin 16) (h : Fin 2) (a : Fin 2) :
    (![128 * b.val, 512 * h.val] : Fin 2 → ℕ) a + S128x512.size a ≤ S2048x1024.size a := by
  revert b h a; decide

/-- Half `h` of block `b`. -/
abbrev pieceR (b : Fin 16) (h : Fin 2) : Rect S2048x1024 := Rect.unit (s := S2048x1024) ![128 * b.val, 512 * h.val] S128x512.size (piece_inb b h)
abbrev pieceM (b : Fin 16) (h : Fin 2) : Memref sig .tc .vmem S128x512 .bf16 := gM.slice (pieceR b h) (fun _ => rfl)
abbrev pieceV (b : Fin 16) (h : Fin 2) (f : Wide F) : Vec F S128x512 .bf16 :=
  gM.view.readAt (Elt F) (pieceR b h).toLoadRect f

theorem off2_eq : ∀ (c : Dev nD) (r : Fin 15), k0_off2 c (BitVec.ofNat 32 r.val) = ![128 * (lb c r.val).val, 512 * (0 : Fin 2).val] := by decide +kernel
theorem off3_eq : ∀ (c : Dev nD) (r : Fin 15), k0_off3 c (BitVec.ofNat 32 r.val) = ![128 * (hb c r.val).val, 512 * (1 : Fin 2).val] := by decide +kernel
theorem off4_eq : ∀ c : Dev nD, k0_off4 c = ![128 * (pos c).val, 512 * (0 : Fin 2).val] := by decide +kernel
theorem off5_eq : ∀ c : Dev nD, k0_off5 c = ![128 * (pos c).val, 512 * (1 : Fin 2).val] := by decide +kernel
theorem off6_eq : ∀ (c : Dev nD) (r : Fin 15), k0_off6 c (BitVec.ofNat 32 r.val) = ![128 * (lb c (r.val + 1)).val, 512 * (0 : Fin 2).val] := by decide +kernel
theorem off7_eq : ∀ (c : Dev nD) (r : Fin 15), k0_off7 c (BitVec.ofNat 32 r.val) = ![128 * (hb c (r.val + 1)).val, 512 * (1 : Fin 2).val] := by decide +kernel
theorem off1_eq : ∀ (c : Dev nD) (r : Fin 8), k0_off1 c (BitVec.ofNat 32 (16 * r.val)) = ![128 * (pos c).val + 16 * r.val, 0] := by decide +kernel

theorem cwPiece_eq (c : Dev nD) (r : Fin 15) : cwPiece gM c r = pieceM (lb c r.val) 0 :=
  Memref.slice_unit_congr _ (off2_eq c r) _ _ (fun _ => rfl) (fun _ => rfl)
theorem ccwPiece_eq (c : Dev nD) (r : Fin 15) : ccwPiece gM c r = pieceM (hb c r.val) 1 :=
  Memref.slice_unit_congr _ (off3_eq c r) _ _ (fun _ => rfl) (fun _ => rfl)

/-- A unit rectangle of the size of a half block, at offsets that are a half block's, is that half block. -/
theorem unit_eq_piece {off : Fin 2 → ℕ} {b : Fin 16} {h : Fin 2} (e : off = ![128 * b.val, 512 * h.val])
    (inb : ∀ a, off a + S128x512.size a ≤ S2048x1024.size a) :
    Rect.unit (s := S2048x1024) off S128x512.size inb = pieceR b h := by subst e; rfl

/-- The elements of a half block. -/
def pset (b : Fin 16) (h : Fin 2) : Finset S2048x1024.Idx := (pieceR b h).set

theorem pieceM_set (b : Fin 16) (h : Fin 2) : (pieceM b h).view.set = pset b h := View.set_slice_whole _ _
theorem gM_setOn (r : Rect S2048x1024) : gM.view.setOn r.set = r.set := by
  ext i; exact (Finset.mem_map' _).trans Iff.rfl

theorem mem_pset {b : Fin 16} {h : Fin 2} {i : S2048x1024.Idx} :
    i ∈ pset b h ↔ (i 0).val / 128 = b.val ∧ (i 1).val / 512 = h.val := by
  unfold pset
  rw [Rect.mem_set_unit, Fin.forall_fin_two]
  have e0 : (S128x512.size 0 : ℕ) = 128 := rfl
  have e1 : (S128x512.size 1 : ℕ) = 512 := rfl
  rw [e0, e1]
  show ((128 * b.val ≤ (i 0).val ∧ (i 0).val < 128 * b.val + 128) ∧ (512 * h.val ≤ (i 1).val ∧ (i 1).val < 512 * h.val + 512)) ↔ _
  constructor
  · rintro ⟨⟨a, b⟩, c, d⟩; exact ⟨by omega, by omega⟩
  · rintro ⟨a, b⟩; exact ⟨⟨by omega, by omega⟩, by omega, by omega⟩

theorem row_lt (i : S2048x1024.Idx) : (i 0).val < 2048 := (i 0).isLt
theorem col_lt (i : S2048x1024.Idx) : (i 1).val < 1024 := (i 1).isLt

theorem pset_disjoint {p q : Fin 16 × Fin 2} (h : p ≠ q) : Disjoint (pset p.1 p.2) (pset q.1 q.2) := by
  rw [Finset.disjoint_left]
  intro i hi hj
  rw [mem_pset] at hi hj
  exact h (Prod.ext (Fin.ext (hi.1.symm.trans hj.1)) (Fin.ext (hi.2.symm.trans hj.2)))

theorem pset_cover : (Finset.univ : Finset (Fin 16 × Fin 2)).biUnion (fun p => pset p.1 p.2) = Finset.univ := by
  ext i
  simp only [Finset.mem_biUnion, Finset.mem_univ, true_and, iff_true]
  have h0 := row_lt i
  have h1 := col_lt i
  exact ⟨(⟨(i 0).val / 128, by omega⟩, ⟨(i 1).val / 512, by omega⟩), mem_pset.mpr ⟨rfl, rfl⟩⟩

/-- A transfer of a half block onto the same half block leaves there what the source had. -/
theorem piece_landed (b : Fin 16) (h : Fin 2) (fd fs : Wide F) (i : S2048x1024.Idx) (hi : i ∈ pset b h) :
    (pieceM b h).view.write (Elt F) fd ((pieceM b h).view.read (Elt F) fs) Finset.univ i = fs i := by
  rw [← pieceM_set] at hi
  obtain ⟨x, -, rfl⟩ := Finset.mem_map.mp hi
  rw [View.write_emb_of_mem _ _ (Finset.mem_univ x), View.read_apply, cast_cast, cast_eq]

/-! ## The result's two halves -/

abbrev loR : Rect S2048x1024 := Rect.unit (s := S2048x1024) ![0, 0] S2048x512.size inb_S2048x1024_S2048x512_0_0
abbrev hiR : Rect S2048x1024 := Rect.unit (s := S2048x1024) ![0, 512] S2048x512.size inb_S2048x1024_S2048x512_0_512

/-- The buffer with columns below 512 from `lo` and the others from `hi`. -/
def halves (lo hi : Vec F S2048x512 .bf16) : Wide F := fun i =>
  if h : (i 1).val < 512 then lo (Shape.pair (d := ![2048, 512]) (i 0) ⟨(i 1).val, h⟩)
  else hi (Shape.pair (d := ![2048, 512]) (i 0) ⟨(i 1).val - 512, by have := col_lt i; show _ < 512; omega⟩)

theorem unit_emb {off size : Fin 2 → ℕ} {inb} (x : (Rect.unit (s := S2048x1024) off size inb).shape.Idx) (a : Fin 2) :
    ((Rect.unit (s := S2048x1024) off size inb).emb x a : ℕ) = off a + (x a : ℕ) := by
  show off a + 1 * (x a : ℕ) = _; omega

theorem lo_emb (x : S2048x512.Idx) : (((oM.access loR : View sig .tc _ _ _).emb x) : S2048x1024.Idx) = Shape.pair (d := ![2048, 1024]) (x 0) ⟨(x 1).val, by have : (x 1).val < 512 := (x 1).isLt; show _ < 1024; omega⟩ := by
  funext a
  refine Fin.ext ((unit_emb (off := ![0, 0]) (size := S2048x512.size) x a).trans ?_)
  fin_cases a
  · exact Nat.zero_add _
  · exact Nat.zero_add _
theorem hi_emb (x : S2048x512.Idx) : (((oM.access hiR : View sig .tc _ _ _).emb x) : S2048x1024.Idx) = Shape.pair (d := ![2048, 1024]) (x 0) ⟨(x 1).val + 512, by have : (x 1).val < 512 := (x 1).isLt; show _ < 1024; omega⟩ := by
  funext a
  refine Fin.ext ((unit_emb (off := ![0, 512]) (size := S2048x512.size) x a).trans ?_)
  fin_cases a
  · exact Nat.zero_add _
  · exact Nat.add_comm _ _

theorem halves_lo (lo hi : Vec F S2048x512 .bf16) (x : S2048x512.Idx) : halves lo hi ((oM.access loR : View sig .tc _ _ _).emb x) = lo x := by
  rw [lo_emb]
  exact (dif_pos (show (x 1).val < 512 from (x 1).isLt)).trans (congrArg lo (Shape.pair_eta (d := ![2048, 512]) x))
theorem halves_hi (lo hi : Vec F S2048x512 .bf16) (x : S2048x512.Idx) : halves lo hi ((oM.access hiR : View sig .tc _ _ _).emb x) = hi x := by
  rw [hi_emb]
  refine (dif_neg (show ¬ (x 1).val + 512 < 512 by omega)).trans (congrArg hi ?_)
  refine Eq.trans ?_ (Shape.pair_eta (d := ![2048, 512]) x)
  exact congrArg (Shape.pair (d := ![2048, 512]) (x 0)) (Fin.ext (by show (x 1).val + 512 - 512 = _; omega))

theorem read_lo (lo hi : Vec F S2048x512 .bf16) : oM.view.readAt (Elt F) loR.toLoadRect (halves lo hi) = lo :=
  funext fun x => halves_lo lo hi x
theorem read_hi (lo hi : Vec F S2048x512 .bf16) : oM.view.readAt (Elt F) hiR.toLoadRect (halves lo hi) = hi :=
  funext fun x => halves_hi lo hi x

theorem halves_ext {f g : Wide F} (hl : ∀ x : S2048x512.Idx, f ((oM.access loR : View sig .tc _ _ _).emb x) = g ((oM.access loR : View sig .tc _ _ _).emb x))
    (hh : ∀ x : S2048x512.Idx, f ((oM.access hiR : View sig .tc _ _ _).emb x) = g ((oM.access hiR : View sig .tc _ _ _).emb x)) : f = g := by
  funext i
  by_cases h : (i 1).val < 512
  · have := hl (Shape.pair (d := ![2048, 512]) (i 0) ⟨(i 1).val, h⟩)
    rw [lo_emb] at this
    rw [← Shape.pair_eta (d := ![2048, 1024]) i]; exact this
  · have hi := col_lt i
    have := hh (Shape.pair (d := ![2048, 512]) (i 0) ⟨(i 1).val - 512, by show _ < 512; omega⟩)
    rw [hi_emb] at this
    have e : (Shape.pair (d := ![2048, 1024]) (i 0) ⟨(i 1).val - 512 + 512, by show _ < 1024; omega⟩ : S2048x1024.Idx) = i := by
      refine Eq.trans ?_ (Shape.pair_eta (d := ![2048, 1024]) i)
      exact congrArg (Shape.pair (d := ![2048, 1024]) (i 0)) (Fin.ext (by show (i 1).val - 512 + 512 = _; omega))
    exact e ▸ this

theorem lo_hi_ne (x y : S2048x512.Idx) : ((oM.access loR : View sig .tc _ _ _).emb x : S2048x1024.Idx) ≠ (oM.access hiR : View sig .tc _ _ _).emb y := by
  rw [lo_emb, hi_emb]
  intro h
  have := congrArg (fun i : S2048x1024.Idx => (i 1).val) h
  change (x 1).val = (y 1).val + 512 at this
  have hx : (x 1).val < 512 := (x 1).isLt
  omega

/-- Any buffer is its two halves. -/
theorem halves_eta (f : Wide F) : f = halves (oM.view.readAt (Elt F) loR.toLoadRect f) (oM.view.readAt (Elt F) hiR.toLoadRect f) :=
  halves_ext (fun x => (halves_lo (oM.view.readAt (Elt F) loR.toLoadRect f) (oM.view.readAt (Elt F) hiR.toLoadRect f) x).symm)
    (fun x => (halves_hi (oM.view.readAt (Elt F) loR.toLoadRect f) (oM.view.readAt (Elt F) hiR.toLoadRect f) x).symm)

theorem write_lo (lo hi v : Vec F S2048x512 .bf16) :
    (oM.access loR : View sig .tc _ _ _).write (Elt F) (halves lo hi) v Finset.univ = halves v hi := by
  refine halves_ext (fun x => ?_) (fun x => ?_)
  · rw [View.write_emb_of_mem _ _ (Finset.mem_univ x)]
    exact (halves_lo v hi x).symm
  · rw [View.write_of_not_mem]
    · exact (halves_hi _ _ x).trans (halves_hi _ _ x).symm
    · intro h
      obtain ⟨y, -, e⟩ := Finset.mem_map.mp h
      exact lo_hi_ne y x e
theorem write_hi (lo hi v : Vec F S2048x512 .bf16) :
    (oM.access hiR : View sig .tc _ _ _).write (Elt F) (halves lo hi) v Finset.univ = halves lo v := by
  refine halves_ext (fun x => ?_) (fun x => ?_)
  · rw [View.write_of_not_mem]
    · exact (halves_lo _ _ x).trans (halves_lo _ _ x).symm
    · intro h
      obtain ⟨y, -, e⟩ := Finset.mem_map.mp h
      exact lo_hi_ne x y e.symm
  · rw [View.write_emb_of_mem _ _ (Finset.mem_univ x)]
    exact (halves_hi lo v x).symm

/-! ## What the blocks hold -/

variable (m : (ℓ : Loc nD τ sig) → Buf (Elt F) ℓ)

/-- The blocks staged on device `c`: its tokens, their experts, its weights. -/
def xstg (c : Dev nD) : (cc0_stg0_0 : Ref sig .tc).ty.Contents (Elt F) :=
  (win0_0.blk (0 : Fin 1)).view.read (Elt F) (m ((c : Thread nD τ).loc main_arg0))
def ristg (c : Dev nD) : (cc0_stg1_0 : Ref sig .tc).ty.Contents (Elt F) :=
  (win0_1.blk (0 : Fin 1)).view.read (Elt F) (m ((c : Thread nD τ).loc main_arg2))
def wstg (c : Dev nD) : (cc0_stg2_0 : Ref sig .tc).ty.Contents (Elt F) :=
  (win0_2.blk (0 : Fin 1)).view.read (Elt F) (m ((c : Thread nD τ).loc main_arg3))

/-- Device `c`'s token slots, and the tokens gathered for its own slots. -/
def gslAt (c : Dev nD) : IVec S2048x1 32 := gslOf F (ristg m c)
def xgAt (c : Dev nD) : FVec F S128x512 .f32 := gathered (oneHot (gslAt m c) (posWord c)) (xstg m c)
/-- One expert's weights. -/
def wAt (c : Dev nD) (le : Fin 8) : Vec F S1x512x1024 .bf16 :=
  wM.view.readAt (Elt F) (Rect.unit (s := S8x512x1024) ![le.val, 0, 0] S1x512x1024.size (inb_weights le)).toLoadRect (wstg m c)
def rowsAt (c : Dev nD) (le : Fin 8) : FVec F S16x1024 .bf16 := expertRows (xgAt m c) le (wAt m c le)

/-- The gathered buffer. -/
def full : Wide F := fun i =>
  rowsAt m (ringOrder ⟨(i 0).val / 128, by have := row_lt i; omega⟩) ⟨(i 0).val % 128 / 16, by omega⟩
    (Shape.pair (d := ![16, 1024]) ⟨(i 0).val % 16, Nat.mod_lt _ (by decide)⟩ (i 1))

abbrev expR (c : Dev nD) (le : Fin 8) : Rect S2048x1024 :=
  Rect.unit (s := S2048x1024) (k0_off1 c (BitVec.ofNat 32 (16 * le.val))) S16x1024.size (k0_off1_inb c le)

theorem exp_emb (c : Dev nD) (le : Fin 8) (x : S16x1024.Idx) :
    (((gM.access (expR c le) : View sig .tc _ _ _).emb x : S2048x1024.Idx) 0).val = 128 * (pos c).val + 16 * le.val + (x 0).val
    ∧ (((gM.access (expR c le) : View sig .tc _ _ _).emb x : S2048x1024.Idx) 1).val = (x 1).val := by
  have h := fun a => unit_emb (off := k0_off1 c (BitVec.ofNat 32 (16 * le.val))) (size := S16x1024.size) (inb := k0_off1_inb c le) x a
  constructor
  · refine (h 0).trans (congrArg (fun o : Fin 2 → ℕ => o 0 + (x 0).val) (off1_eq c le))
  · refine (h 1).trans ((congrArg (fun o : Fin 2 → ℕ => o 1 + (x 1).val) (off1_eq c le)).trans (Nat.zero_add _))

theorem full_exp (c : Dev nD) (le : Fin 8) (x : S16x1024.Idx) :
    full m ((gM.access (expR c le) : View sig .tc _ _ _).emb x) = rowsAt m c le x := by
  obtain ⟨h0, h1⟩ := exp_emb c le x
  have hx : (x 0).val < 16 := (x 0).isLt
  have hl := le.isLt
  have key : ∀ (i : S2048x1024.Idx), (i 0).val = 128 * (pos c).val + 16 * le.val + (x 0).val → (i 1).val = (x 1).val → full m i = rowsAt m c le x := by
    intro i e0 e1
    unfold full
    have a : (⟨(i 0).val / 128, by have := row_lt i; omega⟩ : Fin 16) = pos c := Fin.ext (by show (i 0).val / 128 = _; omega)
    have b : (⟨(i 0).val % 128 / 16, by omega⟩ : Fin 8) = le := Fin.ext (by show (i 0).val % 128 / 16 = _; omega)
    rw [a, b, ringOrder_pos]
    refine congrArg (rowsAt m c le) (Eq.trans ?_ (Shape.pair_eta (d := ![16, 1024]) x))
    refine congrArg₂ (Shape.pair (d := ![16, 1024])) (Fin.ext (by show (i 0).val % 16 = _; omega)) (Fin.ext e1)
  exact key _ h0 h1

/-- After the experts below `le` the device's rows below `16 * le` hold the block's; the next store extends that. -/
theorem exp_step (c : Dev nD) (le : Fin 8) (f : Wide F)
    (hf : ∀ i : S2048x1024.Idx, 128 * (pos c).val ≤ (i 0).val → (i 0).val < 128 * (pos c).val + 16 * le.val → f i = full m i)
    (i : S2048x1024.Idx) (h0 : 128 * (pos c).val ≤ (i 0).val) (h1 : (i 0).val < 128 * (pos c).val + 16 * (le.val + 1)) :
    (gM.access (expR c le) : View sig .tc _ _ _).write (Elt F) f (rowsAt m c le) Finset.univ i = full m i := by
  by_cases h : (i 0).val < 128 * (pos c).val + 16 * le.val
  · rw [View.write_of_not_mem]
    · exact hf i h0 h
    · intro hm
      obtain ⟨y, -, e⟩ := Finset.mem_map.mp hm
      have := (exp_emb c le y).1
      rw [e] at this
      omega
  · have e : (gM.access (expR c le) : View sig .tc _ _ _).emb (Shape.pair (d := ![16, 1024]) ⟨(i 0).val - (128 * (pos c).val + 16 * le.val), by show _ < 16; omega⟩ (i 1)) = i := by
      funext a
      refine Fin.ext ?_
      have := exp_emb c le (Shape.pair (d := ![16, 1024]) ⟨(i 0).val - (128 * (pos c).val + 16 * le.val), by show _ < 16; omega⟩ (i 1))
      fin_cases a
      · exact this.1.trans (by show 128 * (pos c).val + 16 * le.val + ((i 0).val - (128 * (pos c).val + 16 * le.val)) = (i 0).val; omega)
      · exact this.2
    rw [← e, full_exp, View.write_emb_of_mem _ _ (Finset.mem_univ _)]
    rfl

theorem exp_set (c : Dev nD) (le : Fin 8) : (gM.access (expR c le) : View sig .tc _ _ _).set ⊆ pset (pos c) 0 ∪ pset (pos c) 1 := by
  intro i hi
  obtain ⟨y, -, rfl⟩ := Finset.mem_map.mp hi
  obtain ⟨h0, h1⟩ := exp_emb c le y
  have hy : (y 0).val < 16 := (y 0).isLt
  have hy1 : (y 1).val < 1024 := (y 1).isLt
  have hl := le.isLt
  rw [Finset.mem_union, mem_pset, mem_pset, h0, h1]
  show (_ ∧ _ = 0) ∨ (_ ∧ _ = 1)
  omega

/-! ## The result, hop by hop -/

def loWordN (my : BitVec 32) (n : ℕ) : BitVec 32 :=
  Scalar.remsi (Scalar.addi (Scalar.subi (Scalar.subi my 1#32) (BitVec.ofNat 32 n)) 16#32) 16#32
def hiWordN (my : BitVec 32) (n : ℕ) : BitVec 32 :=
  Scalar.remsi (Scalar.addi (Scalar.addi my 1#32) (BitVec.ofNat 32 n)) 16#32

/-- The low and the high half after the device's own block and the blocks of the first `n` hops. -/
def accLo (c : Dev nD) : ℕ → Vec F S2048x512 .bf16
  | 0 => placed (oneHot (gslAt m c) (posWord c)) (pieceV (pos c) 0 (full m))
  | n + 1 => added (gslAt m c) (loWordN (posWord c) n) (accLo c n) (pieceV (lb c (n + 1)) 0 (full m))
def accHi (c : Dev nD) : ℕ → Vec F S2048x512 .bf16
  | 0 => placed (oneHot (gslAt m c) (posWord c)) (pieceV (pos c) 1 (full m))
  | n + 1 => added (gslAt m c) (hiWordN (posWord c) n) (accHi c n) (pieceV (hb c (n + 1)) 1 (full m))

/-- The result. -/
def outAt (c : Dev nD) : Wide F := halves (accLo m c 15) (accHi m c 15)

end Cert.Proof.Ring

end
-- ==== Proof.Sched.lean ====
/-
The protocol of the ring under the rounds library.

Each device has one barrier cell and, for each hop, four transfer cells: what it sends clockwise has left, what comes
clockwise has landed, and the same counterclockwise. A cell has one round. The barrier cell's two duties are paid by the
two neighbours' signals: the right one hands over the low halves the clockwise hops will write there, the left one the high
halves of the counterclockwise hops. A transfer cell's duty carries the half block moved.
-/
module

public import proofs.«01_k».proof.Proof.Ring

@[expose] public section

noncomputable section

namespace Cert.Proof.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-! ## Cells -/

abbrev barS : Sem sig := (SemArray.scalar (sig.barrier 0 rfl) : Sems sig S_).sem
/-- Transfer semaphore `a` of hop `r`: 0 sent clockwise, 1 landed clockwise, 2 sent counterclockwise, 3 landed so. -/
def dsem (a : Fin 4) (r : Fin 15) : DmaSem sig := ⟨4 + 15 * a.val + r.val, by show _ < 64; omega⟩

theorem dsem_val (a : Fin 4) (r : Fin 15) : (dsem a r).val = 4 + 15 * a.val + r.val := rfl
theorem semAt_0 (r : Fin 15) : semAt cc0_scratch1 r = dsem 0 r := by revert r; decide
theorem semAt_1 (r : Fin 15) : semAt cc0_scratch2 r = dsem 1 r := by revert r; decide
theorem semAt_2 (r : Fin 15) : semAt cc0_scratch3 r = dsem 2 r := by revert r; decide
theorem semAt_3 (r : Fin 15) : semAt cc0_scratch4 r = dsem 3 r := by revert r; decide

abbrev barCell (c : Dev nD) : GSem nD τ sig := ((c : Thread nD τ), .reg barS)
abbrev dcell (c : Dev nD) (a : Fin 4) (r : Fin 15) : GSem nD τ sig := ((c : Thread nD τ), .dma (dsem a r))

theorem dsem_inj {a a' : Fin 4} {r r' : Fin 15} (h : dsem a r = dsem a' r') : a = a' ∧ r = r' := by
  have := congrArg Fin.val h
  rw [dsem_val, dsem_val] at this
  exact ⟨Fin.ext (by omega), Fin.ext (by omega)⟩
theorem dcell_inj {c c' : Dev nD} {a a' : Fin 4} {r r' : Fin 15} (h : dcell c a r = dcell c' a' r') : c = c' ∧ a = a' ∧ r = r' := by
  have h1 : c = c' := Fin.ext (congrArg (fun g : GSem nD τ sig => g.1.1.val) h)
  have h2 : (SemLoc.dma (dsem a r) : SemLoc sig) = .dma (dsem a' r') := congrArg Prod.snd h
  exact ⟨h1, dsem_inj (SemLoc.dma.inj h2)⟩
theorem bar_ne_dcell (c c' : Dev nD) (a : Fin 4) (r : Fin 15) : barCell c ≠ dcell c' a r := fun h => by
  have h2 : (SemLoc.reg barS : SemLoc sig) = .dma (dsem a r) := congrArg Prod.snd h
  cases h2
theorem bar_inj {a b : Dev nD} (h : barCell a = barCell b) : a = b :=
  Fin.ext (congrArg (fun g : GSem nD τ sig => g.1.1.val) h)

/-- What a half block's transfer credits. -/
def N : ℕ := (pieceM 0 0).view.dmaCredit
theorem N_pos : 0 < N := View.dmaCredit_pos _ (by decide)
theorem piece_credit (b : Fin 16) (h : Fin 2) : (pieceM b h).view.dmaCredit = N := rfl

/-! ## Half blocks held -/

/-- Half `h` of block `b` of device `c`'s gather buffer, at the share `q` and the contents `f`. -/
def gPts (c : Dev nD) (b : Fin 16) (h : Fin 2) (q : PosShare TreeShare) (f : Wide F) : sProp 𝕄 :=
  ((c : Thread nD τ).loc cc0_scratch0) ↦[(pset b h : Finset (cc0_scratch0 : Ref sig .tc).ty.Idx)]{q} f

instance gPts_storable (c : Dev nD) (b h q) (f : Wide F) : BI.Storable (upEmb : UEmb _ 𝕄) (gPts c b h q f) := by
  unfold gPts; infer_instance

theorem gPts_piece (c : Dev nD) (b : Fin 16) (h : Fin 2) (q : PosShare TreeShare) (f : Wide F) :
    (gPts c b h q f : sProp 𝕄) = ((pieceM b h).view.loc (c : Thread nD τ) ↦[(pieceM b h).view.set]{q} f) := by
  unfold gPts; rw [pieceM_set]

theorem gPts_share (c : Dev nD) (b : Fin 16) (h : Fin 2) (f : Wide F) :
    (gPts c b h fullShare f : sProp 𝕄) ⊣⊢ iprop(gPts c b h fullShare.left f ∗ gPts c b h fullShare.right f) :=
  pointsTo_share (PosShare.mem_left_op_right fullShare)

/-! ## The schedule -/

/-- What the two signals to `c`'s barrier hand `c`. -/
def barPay (c : Dev nD) (d : Bool) : sProp 𝕄 :=
  if d then bigSep Finset.univ fun s : Fin 15 => iprop(∃ f, gPts (right c) (lb c s.val) 0 fullShare f)
  else bigSep Finset.univ fun s : Fin 15 => iprop(∃ f, gPts (left c) (hb c s.val) 1 fullShare f)

/-- What the transfers of hop `r` hand `c`. -/
def xferPay (c : Dev nD) (a r : ℕ) : sProp 𝕄 := match a with
  | 0 => gPts c (lb c r) 0 fullShare.left (full m)
  | 1 => gPts c (lb c (r + 1)) 0 fullShare (full m)
  | 2 => gPts c (hb c r) 1 fullShare.left (full m)
  | _ => gPts c (hb c (r + 1)) 1 fullShare (full m)

instance barPay_storable (c : Dev nD) (d : Bool) : BI.Storable (upEmb : UEmb _ 𝕄) (barPay (F := F) c d) := by
  unfold barPay; split <;> infer_instance
instance xferPay_storable (c : Dev nD) (a r : ℕ) : BI.Storable (upEmb : UEmb _ 𝕄) (xferPay m c a r) := by
  unfold xferPay; split <;> infer_instance

def payloadOf (c : Dev nD) (d : Bool) : SemLoc sig → sProp 𝕄
  | .reg _ => barPay c d
  | .dma q => xferPay m c ((q.val - 4) / 15) ((q.val - 4) % 15)
def dutiesOf : SemLoc sig → Finset Bool
  | .reg _ => Finset.univ
  | .dma q => if 4 ≤ q.val then {false} else ∅
def amountOf : SemLoc sig → ℕ
  | .reg _ => 1
  | .dma _ => N

instance payloadOf_storable (c : Dev nD) (d : Bool) (g : SemLoc sig) : BI.Storable (upEmb : UEmb _ 𝕄) (payloadOf m c d g) := by
  unfold payloadOf; split <;> infer_instance

def Rd : Rounds.Schedule (GSem nD τ sig) Bool 𝕄 where
  duties g r := if r = 0 ∧ g.1.2 = .tc then dutiesOf g.2 else ∅
  unitless _ := False
  amount g _ _ := amountOf g.2
  payload g _ d := payloadOf m g.1.1 d g.2
  amount_pos g _ _ _ := by
    show 0 < amountOf g.2
    unfold amountOf; split
    · exact Nat.one_pos
    · exact N_pos

instance Rd_payload_storable (g : GSem nD τ sig) (r : ℕ) (d : Bool) : BI.Storable (upEmb : UEmb _ 𝕄) ((Rd m).payload g r d) :=
  payloadOf_storable m g.1.1 d g.2

section Sched
variable (c : Dev nD) (a : Fin 4) (r : Fin 15)

theorem duties_first (sm : SemLoc sig) : (Rd m).duties ((c : Thread nD τ), sm) 0 = dutiesOf sm :=
  if_pos (e := ∅) (show 0 = 0 ∧ ((c : Thread nD τ), sm).1.2 = .tc from ⟨rfl, rfl⟩)
theorem duties_bar : (Rd m).duties (barCell c) 0 = Finset.univ := duties_first m c (.reg barS)
theorem duties_d : (Rd m).duties (dcell c a r) 0 = {false} :=
  (duties_first m c (.dma (dsem a r))).trans (if_pos (show 4 ≤ (dsem a r).val by rw [dsem_val]; omega))
theorem duties_later (g : GSem nD τ sig) : ∀ r, 1 ≤ r → (Rd m).duties g r = ∅ :=
  fun r hr => if_neg fun h => by omega
theorem amount_bar (d : Bool) : (Rd m).amount (barCell c) 0 d = 1 := rfl
theorem amount_d (d : Bool) : (Rd m).amount (dcell c a r) 0 d = N := rfl
theorem expect_bar : (Rd m).expect (barCell c) 0 = 2 := by
  unfold Schedule.expect Schedule.amountOf
  rw [duties_bar, Finset.sum_congr rfl fun d _ => amount_bar m c d, Finset.sum_const, Finset.card_univ, Fintype.card_bool, smul_eq_mul]
theorem expect_d : (Rd m).expect (dcell c a r) 0 = N := by
  unfold Schedule.expect Schedule.amountOf; rw [duties_d, Finset.sum_singleton, amount_d]
theorem payload_bar (d : Bool) : (Rd m).payload (barCell c) 0 d = barPay c d := rfl
theorem payload_d (d : Bool) : (Rd m).payload (dcell c a r) 0 d = xferPay m c a.val r.val := by
  show xferPay m c (((dsem a r).val - 4) / 15) (((dsem a r).val - 4) % 15) = _
  rw [dsem_val, show (4 + 15 * a.val + r.val - 4) / 15 = a.val by omega, show (4 + 15 * a.val + r.val - 4) % 15 = r.val by omega]
theorem rest_bar : bigSep ((Rd m).duties (barCell c) 0 \ ∅) (fun d => (Rd m).payload (barCell c) 0 d) = iprop(barPay c false ∗ barPay c true) := by
  rw [Finset.sdiff_empty, duties_bar, bigSep_univ_eq_bigSepL [false, true] (by decide) (by decide), bigSepL_cons_cons, bigSepL_singleton]
  rfl
theorem rest_d : bigSep ((Rd m).duties (dcell c a r) 0 \ ∅) (fun d => (Rd m).payload (dcell c a r) 0 d) = xferPay m c a.val r.val := by
  rw [Finset.sdiff_empty, duties_d, bigSep_singleton, payload_d]

end Sched

/-! ## What each device owes; the levels -/

/-- What hop `s`'s transfers owe: the credits of the landings on both neighbours. -/
def hopOwes (c : Dev nD) (s : Fin 15) : CellTallies nD τ sig Unit :=
  tallyAt (dcell (left c) 3 s) () N + tallyAt (dcell (right c) 1 s) () N

/-- What the hops from number `n` on owe. -/
def Orem (c : Dev nD) (n : ℕ) : CellTallies nD τ sig Unit := ∑ s ∈ Finset.univ.filter (fun s : Fin 15 => n ≤ s.val), hopOwes c s

theorem from_succ (s : Fin 15) : Finset.univ.filter (fun t : Fin 15 => s.val ≤ t.val) = insert s (Finset.univ.filter fun t : Fin 15 => s.val + 1 ≤ t.val) := by
  ext t
  simp only [Finset.mem_filter, Finset.mem_univ, true_and, Finset.mem_insert, Fin.ext_iff]
  omega
theorem notMem_from (s : Fin 15) : s ∉ Finset.univ.filter (fun t : Fin 15 => s.val + 1 ≤ t.val) := by
  simp

theorem Orem_peel (c : Dev nD) (s : Fin 15) :
    Orem c s.val = (Orem c (s.val + 1) + tallyAt (dcell (left c) 3 s) () N) + tallyAt (dcell (right c) 1 s) () N := by
  unfold Orem
  rw [from_succ, Finset.sum_insert (notMem_from s), add_comm, hopOwes, add_assoc]

theorem Orem_last (c : Dev nD) : Orem c 15 = 0 := by
  unfold Orem
  rw [Finset.sum_eq_zero]
  intro s hs
  have := (Finset.mem_filter.mp hs).2
  omega

/-- At launch a device owes all its hops and a signal to each neighbour. -/
def O₁ (c : Dev nD) : CellTallies nD τ sig Unit := Orem c 0 + tallyAt (barCell (right c)) () 1
def O₀ (c : Dev nD) : CellTallies nD τ sig Unit := O₁ c + tallyAt (barCell (left c)) () 1

def L (g : GSem nD τ sig) : Finset Unit := if g.1.2 = .tc then {()} else ∅
def lvOf : SemLoc sig → ℕ
  | .reg _ => 1
  | .dma q => if 4 ≤ q.val ∧ (q.val - 4) / 15 % 2 = 1 then 2 + (q.val - 4) % 15 else 0
/-- Barriers at 1; the landings of hop `n` at `2 + n`; the rest at 0. -/
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem lv_landing (c : Dev nD) (a : Fin 4) (ha : a = 1 ∨ a = 3) (r : Fin 15) : lv (dcell c a r) () = 2 + r.val := by
  show (if 4 ≤ (dsem a r).val ∧ ((dsem a r).val - 4) / 15 % 2 = 1 then 2 + ((dsem a r).val - 4) % 15 else 0) = _
  have h : a.val = 1 ∨ a.val = 3 := ha.imp (congrArg Fin.val) (congrArg Fin.val)
  rw [dsem_val, if_pos (by omega)]
  omega
theorem lv_le (c : Dev nD) (a : Fin 4) (r : Fin 15) : lv (dcell c a r) () ≤ 2 + r.val := by
  show (if 4 ≤ (dsem a r).val ∧ ((dsem a r).val - 4) / 15 % 2 = 1 then 2 + ((dsem a r).val - 4) % 15 else 0) ≤ _
  rw [dsem_val]
  split <;> omega

theorem hopOwes_pos {c : Dev nD} {s : Fin 15} {g : GSem nD τ sig} {u : Unit} (h : 0 < hopOwes c s g u) :
    g = dcell (right c) 1 s ∨ g = dcell (left c) 3 s := by
  unfold hopOwes at h
  rw [Pi.add_apply, Finsupp.add_apply, tallyAt_apply, tallyAt_apply] at h
  by_contra hn
  rw [not_or] at hn
  rw [if_neg (fun h' => hn.2 h'.1), if_neg (fun h' => hn.1 h'.1)] at h
  exact Nat.lt_irrefl 0 h

theorem Orem_apply (c : Dev nD) (n : ℕ) (g : GSem nD τ sig) (u : Unit) :
    Orem c n g u = ∑ s ∈ Finset.univ.filter (fun s : Fin 15 => n ≤ s.val), hopOwes c s g u := by
  unfold Orem
  rw [Finset.sum_apply, Finsupp.finset_sum_apply]

theorem Orem_pos {c : Dev nD} {n : ℕ} {g : GSem nD τ sig} {u : Unit} (h : 0 < Orem c n g u) :
    ∃ s : Fin 15, n ≤ s.val ∧ (g = dcell (right c) 1 s ∨ g = dcell (left c) 3 s) := by
  rw [Orem_apply] at h
  obtain ⟨s, hs, hp⟩ := Finset.exists_ne_zero_of_sum_ne_zero (Nat.pos_iff_ne_zero.mp h)
  exact ⟨s, (Finset.mem_filter.mp hs).2, hopOwes_pos (Nat.pos_of_ne_zero hp)⟩

theorem O₀_pos {c : Dev nD} {g : GSem nD τ sig} {u : Unit} (h : 0 < O₀ c g u) :
    (∃ s : Fin 15, g = dcell (right c) 1 s ∨ g = dcell (left c) 3 s) ∨ g = barCell (right c) ∨ g = barCell (left c) := by
  unfold O₀ O₁ at h
  rw [Pi.add_apply, Finsupp.add_apply, Pi.add_apply, Finsupp.add_apply, tallyAt_apply, tallyAt_apply] at h
  by_cases h1 : g = barCell (right c)
  · exact .inr (.inl h1)
  by_cases h2 : g = barCell (left c)
  · exact .inr (.inr h2)
  rw [if_neg (fun h' => h1 h'.1), if_neg (fun h' => h2 h'.1)] at h
  obtain ⟨s, _, hs⟩ := Orem_pos (show 0 < Orem c 0 g u by omega)
  exact .inl ⟨s, hs⟩

theorem mem_L (c : Dev nD) (sm : SemLoc sig) (u : Unit) : u ∈ L ((c : Thread nD τ), sm) := by
  rw [L_tc]; exact Finset.mem_singleton_self _

theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; exact mem_L c _ _)
      (fun g u hg => by
        rcases O₀_pos hg with ⟨s, rfl | rfl⟩ | rfl | rfl <;> exact mem_L _ _ _)
      (fun p hp => by
        rw [Finset.mem_singleton.mp hp]
        show (if 4 ≤ q.val ∧ _ then _ else 0) ≤ 0
        rw [if_neg (by omega)])
      (fun g u hg => by
        rcases O₀_pos hg with ⟨s, rfl | rfl⟩ | rfl | rfl
        · rw [lv_landing _ _ (.inl rfl)]; omega
        · rw [lv_landing _ _ (.inr rfl)]; omega
        · exact Nat.one_pos
        · exact Nat.one_pos)
  · rw [MayWait_zero]; iintro -; iempintro

theorem mayWait_bar (c : Dev nD) : (levAts L lv : sProp 𝕄) ⊢ MayWait (c : Thread nD τ) (.reg barS) () (Orem c 0) :=
  MayOwe.of_cut (L := L) (lev := lv) 1 (fun p hp => by rw [Finset.mem_singleton.mp hp]; exact mem_L c _ _)
    (fun g u hg => by obtain ⟨s, _, rfl | rfl⟩ := Orem_pos hg <;> exact mem_L _ _ _)
    (fun p hp => by rw [Finset.mem_singleton.mp hp]; exact le_refl 1)
    (fun g u hg => by
      obtain ⟨s, _, rfl | rfl⟩ := Orem_pos hg
      · rw [lv_landing _ _ (.inl rfl)]; omega
      · rw [lv_landing _ _ (.inr rfl)]; omega)

theorem mayWait_hop (c : Dev nD) (a : Fin 4) (r : Fin 15) :
    (levAts L lv : sProp 𝕄) ⊢ MayWait (c : Thread nD τ) (.dma (dsem a r)) () (Orem c (r.val + 1)) :=
  MayOwe.of_cut (L := L) (lev := lv) (2 + r.val) (fun p hp => by rw [Finset.mem_singleton.mp hp]; exact mem_L c _ _)
    (fun g u hg => by obtain ⟨s, _, rfl | rfl⟩ := Orem_pos hg <;> exact mem_L _ _ _)
    (fun p hp => by rw [Finset.mem_singleton.mp hp]; exact lv_le c a r)
    (fun g u hg => by
      obtain ⟨s, hs, rfl | rfl⟩ := Orem_pos hg
      · rw [lv_landing _ _ (.inl rfl)]; omega
      · rw [lv_landing _ _ (.inr rfl)]; omega)

end Cert.Proof.Ring

end
-- ==== Proof.Hops.lean ====
/-
The pieces of the body under the protocol: a transfer started, a transfer awaited, a hop of each, and what a hop adds to
the result.
-/
module

public import proofs.«01_k».proof.Proof.Sched

@[expose] public section

noncomputable section

namespace Cert.Proof.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells' shared records -/

/-- A device's cells: its barrier cell, and four for each hop. -/
abbrev CK : Type := Unit ⊕ (Fin 4 × Fin 15)
def csem : CK → SemLoc sig
  | .inl _ => .reg barS
  | .inr k => .dma (dsem k.1 k.2)
def kcell (ck : Dev nD × CK) : GSem nD τ sig := ((ck.1 : Thread nD τ), csem ck.2)

variable (K : Dev nD × CK → ℕ)

/-- Every cell's invariant, under the names `K`, and that every cell has reached its round. -/
def records : sProp 𝕄 :=
  iprop((bigSep Finset.univ fun ck : Dev nD × CK => cellInv ER (Rd m) (K ck) (kcell ck))
    ∗ bigSep Finset.univ fun ck : Dev nD × CK => reached ER (kcell ck) 0)

instance records_persistent : BI.Persistent (records m K) := by unfold records; infer_instance

theorem records_inv (ck : Dev nD × CK) : records m K ⊢ cellInv ER (Rd m) (K ck) (kcell ck) := by
  unfold records
  have h : (bigSep Finset.univ fun ck : Dev nD × CK => (cellInv ER (Rd m) (K ck) (kcell ck) : sProp 𝕄)) ⊢ cellInv ER (Rd m) (K ck) (kcell ck) :=
    bigSep_elim (Finset.mem_univ ck)
  iintro ⟨#H, -⟩
  iapply h; iexact H
theorem records_reached (ck : Dev nD × CK) : records m K ⊢ (reached ER (kcell ck) 0 : sProp 𝕄) := by
  unfold records
  have h : (bigSep Finset.univ fun ck : Dev nD × CK => (reached ER (kcell ck) 0 : sProp 𝕄)) ⊢ reached ER (kcell ck) 0 :=
    bigSep_elim (Finset.mem_univ ck)
  iintro ⟨-, #H⟩
  iapply h; iexact H

theorem inv_d (c : Dev nD) (a : Fin 4) (r : Fin 15) : records m K ⊢ cellInv ER (Rd m) (K (c, .inr (a, r))) (dcell c a r) :=
  records_inv m K (c, .inr (a, r))
theorem inv_b (c : Dev nD) : records m K ⊢ cellInv ER (Rd m) (K (c, .inl ())) (barCell c) := records_inv m K (c, .inl ())
theorem rch_d (c : Dev nD) (a : Fin 4) (r : Fin 15) : records m K ⊢ (reached ER (dcell c a r) 0 : sProp 𝕄) :=
  records_reached m K (c, .inr (a, r))
theorem rch_b (c : Dev nD) : records m K ⊢ (reached ER (barCell c) 0 : sProp 𝕄) := records_reached m K (c, .inl ())

abbrev 𝒱₀ : Variants := Variants.none

/-! ## One transfer -/

/-- A half block sent to the device `n`: half the share of the source leaves with it, and comes back through the sender's cell. -/
theorem wp_send_piece (c n n' : Dev nD) (hn : n' = n) (b : Fin 16) (h : Fin 2) (a1 a2 : Fin 4) (r : Fin 15)
    (M : Memref sig .tc .vmem S128x512 .bf16) (hM : M = pieceM b h) (s1 s2 : DmaSem sig) (h1 : s1 = dsem a1 r) (h2 : s2 = dsem a2 r)
    (p1 : xferPay m c a1.val r.val = gPts c b h fullShare.left (full m)) (p2 : xferPay m n a2.val r.val = gPts n b h fullShare (full m))
    {hsc : (M : Memref sig (Dev.tc n' : Thread nD τ).2.kind .vmem S128x512 .bf16).view.ref.isScScratch = false}
    {hsrc : M.view.WordExact} {hdst : M.view.WordExact}
    {hsem : DmaTarget.Typed .vmem (.dma s2) (.remote (Dev.tc n' : Thread nD τ) (M : Memref sig .tc .vmem S128x512 .bf16) (.dma s1) hsc)}
    {α : Type} {Q : α → sProp 𝕄} {k : PUnit → Prog (TpuEff nD τ sig (Elt F) Λ₀ .tc) α}
    (fn : Wide F) (O O' : CellTallies nD τ sig Unit) (hO : O' = O + tallyAt (dcell n a2 r) () N) (W : Waits sig Unit) :
    iprop(records m K ∗ gPts c b h fullShare.left (full m) ∗ gPts n b h fullShare fn
        ∗ owes (c : Thread nD τ) O' W
        ∗ dutyTok ER (dcell c a1 r) 0 false ∗ dutyTok ER (dcell n a2 r) 0 false)
      ⊢ iprop(((cred (tallyAt (dcell c a1 r) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma M (.remote (Dev.tc n' : Thread nD τ) M (.dma s1) hsc) (.dma s2) hsrc hdst hsem) k) Q) := by
  subst hn hM h1 h2
  iintro ⟨#HR, Hs, Hd, HO, Ht1, Ht2⟩
  iapply (Rounds.wp_send_pointsTo 𝒱₀ ER (Rd m) (c : Thread nD τ) none (κ₁ := K (c, .inr (a1, r))) (κ₂ := K (n', .inr (a2, r)))
    (r₁ := 0) (r₂ := 0) (d₁ := false) (d₂ := false) (q := fullShare.left) (fs := full m) (fd := fn)
    (by rw [duties_d]; exact Finset.mem_singleton_self _) (by rw [duties_d]; exact Finset.mem_singleton_self _)
    () () N (by exact piece_credit b h) (amount_d m c a1 r false) (amount_d m n' a2 r false) O hO (W := W)
    (by rw [payload_d, p1, gPts_piece])
    (by
      rw [payload_d, p2]
      refine Entails.of_eq ?_
      rw [gPts_piece]
      exact pointsTo_congr fun i hi => piece_landed b h fn (full m) i (by rw [← pieceM_set]; exact hi)))
  isplitr; · iapply (inv_d m K c a1 r); iexact HR
  isplitr; · iapply (inv_d m K n' a2 r); iexact HR
  isplitl [Hs]; · iapply (Entails.of_eq (gPts_piece c b h fullShare.left (full m))); iexact Hs
  isplitl [Hd]; · iapply (Entails.of_eq (gPts_piece n' b h fullShare fn)); iexact Hd
  isplitl [HO]; · iexact HO
  isplitl [Ht1]; · iexact Ht1
  isplitr; · iapply (rch_d m K c a1 r); iexact HR
  isplitl [Ht2]; · iexact Ht2
  iapply (rch_d m K n' a2 r); iexact HR

/-- A transfer cell awaited, then closed: its payload, and the counter at zero. -/
theorem wp_wait_piece (c : Dev nD) (b : Fin 16) (h : Fin 2) (a : Fin 4) (r : Fin 15)
    (M : Memref sig .tc .vmem S128x512 .bf16) (hM : M = pieceM b h) (s : DmaSem sig) (hs : s = dsem a r)
    {hsrc : M.view.WordExact} {hdst : M.view.WordExact}
    {α : Type} {Q : α → sProp 𝕄} {k : PUnit → Prog (TpuEff nD τ sig (Elt F) Λ₀ .tc) α} (W : Waits sig Unit) :
    iprop(records m K ∗ levAts L lv ∗ cred (tallyAt (dcell c a r) () N) ∗ owes (c : Thread nD τ) (Orem c (r.val + 1)) W
        ∗ atPos ER (dcell c a r) 0 ∅ 0)
      ⊢ iprop((((∃ W, owes (c : Thread nD τ) (Orem c (r.val + 1)) W) ∗ semVal (dcell c a r) 0 ∗ xferPay m c a.val r.val)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s M M hsrc hdst) k) Q) := by
  subst hM hs
  iintro ⟨#HR, #Hlev, Hc, HO, Hat⟩ Hk
  iapply (Rounds.wp_wait_rest_token 𝒱₀ ER (Rd m) (c : Thread nD τ) none (κ := K (c, .inr (a, r)))
      (wpE_waitDma2_eq 𝒱₀ (c : Thread nD τ) none Set.univ) (Set.mem_univ _) () (O := Orem c (r.val + 1)) (W := W) (R := 0) (m := 0) (T := ∅)
      (by rw [Nat.zero_add, expect_d]; exact piece_credit b h)) $$ [Hc HO Hat]
  · isplitr; · iapply (inv_d m K c a r); iexact HR
    isplitl [Hc]; · iexact Hc
    isplitl [HO]; · iexact HO
    isplitr; · iapply (mayWait_hop c a r); iexact Hlev
    iexact Hat
  iintro ⟨HO, Hat, -, Hpay⟩
  ihave Hp := (Entails.of_eq (rest_d m c a r)) $$ Hpay
  imod (Rounds.cell_close ER (Rd m) (Set.mem_univ (K (c, .inr (a, r)))) (fun h => h) (R := 0 + 1) (duties_later m (dcell c a r))) $$ [Hat] with Hz
  · isplitr; · iapply (inv_d m K c a r); iexact HR
    iexact Hat
  iapply Hk
  isplitl [HO]; · iexists _; iexact HO
  isplitl [Hz] <;> iassumption

end Cert.Proof.Ring

end
-- ==== Proof.Steps.lean ====
/-
The groups of statements of the body: a hop started, a hop awaited, what it adds, the device's own block, the experts; and
the whole ring by induction over the hops.
-/
module

public import proofs.«01_k».proof.Proof.Hops

@[expose] public section

noncomputable section

namespace Cert.Proof.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-! ## A hop's stages -/

/-- What a hop's waits need of the device's own cells. -/
def Own (c : Dev nD) (r : Fin 15) : sProp 𝕄 :=
  iprop(atPos ER (dcell c 0 r) 0 ∅ 0 ∗ atPos ER (dcell c 1 r) 0 ∅ 0 ∗ atPos ER (dcell c 2 r) 0 ∅ 0 ∗ atPos ER (dcell c 3 r) 0 ∅ 0
    ∗ cred (tallyAt (dcell c 1 r) () N) ∗ cred (tallyAt (dcell c 3 r) () N))

/-- Hop `r` before it starts. -/
def Ready (c : Dev nD) (r : Fin 15) : sProp 𝕄 :=
  iprop(dutyTok ER (dcell c 0 r) 0 false ∗ dutyTok ER (dcell (right c) 1 r) 0 false ∗ dutyTok ER (dcell c 2 r) 0 false ∗ dutyTok ER (dcell (left c) 3 r) 0 false
    ∗ (∃ f, gPts (F := F) (right c) (lb c r.val) 0 fullShare f) ∗ (∃ f, gPts (F := F) (left c) (hb c r.val) 1 fullShare f) ∗ Own c r)

/-- Hop `r` in flight: the shares of its sources that stayed. -/
def Mid (c : Dev nD) (r : Fin 15) : sProp 𝕄 :=
  iprop(gPts c (lb c r.val) 0 fullShare.right (full m) ∗ gPts c (hb c r.val) 1 fullShare.right (full m)
    ∗ cred (tallyAt (dcell c 0 r) () N) ∗ cred (tallyAt (dcell c 2 r) () N) ∗ Own c r)

/-- Hop `r` over: its cells closed, its sources whole again. -/
def Done (c : Dev nD) (r : Fin 15) : sProp 𝕄 :=
  iprop(semVal (dcell c 0 r) 0 ∗ semVal (dcell c 1 r) 0 ∗ semVal (dcell c 2 r) 0 ∗ semVal (dcell c 3 r) 0
    ∗ gPts c (lb c r.val) 0 fullShare (full m) ∗ gPts c (hb c r.val) 1 fullShare (full m))

def outP (c : Dev nD) (f : Wide F) : sProp 𝕄 := ((c : Thread nD τ).loc cc0_stg3_0) ↦{fullShare} f

section Hop

variable {α : Type}

theorem hop_send (c : Dev nD) (r : Fin 15) (W : Waits sig Unit)
    {Q : α → sProp 𝕄} {k : PUnit → Prog (TpuEff nD τ sig (Elt F) Λ₀ .tc) α} :
    iprop(records m K ∗ Ready c r ∗ gPts c (lb c r.val) 0 fullShare (full m) ∗ gPts c (hb c r.val) 1 fullShare (full m)
        ∗ owes (c : Thread nD τ) (Orem c r.val) W)
      ⊢ iprop(((Mid m c r ∗ owes (c : Thread nD τ) (Orem c (r.val + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
            (hopSend gM (Memref.isWhole_whole _) cc0_scratch1 cc0_scratch2 cc0_scratch3 cc0_scratch4 c r >>= k) Q) := by
  unfold hopSend Ready
  simp only [Prog.lift, Prog.bind_op, Prog.bind_ret, Prog.pure_eq_ret]
  iintro ⟨#HR, ⟨Ht0, Ht1, Ht2, Ht3, ⟨%f1, Hd1⟩, ⟨%f3, Hd3⟩, Hown⟩, Hlo, Hhi, HO⟩ Hk
  ihave Hlo' := (gPts_share c (lb c r.val) 0 (full m)).1 $$ Hlo
  icases Hlo' with ⟨Hlo1, Hlo2⟩
  ihave Hhi' := (gPts_share c (hb c r.val) 1 (full m)).1 $$ Hhi
  icases Hhi' with ⟨Hhi1, Hhi2⟩
  iapply (wp_send_piece m K c (right c) _ (dev3_eq c) (lb c r.val) 0 0 1 r _ (cwPiece_eq c r) (hsrc := (Memref.isWhole_whole cc0_scratch0).wordExact_slice rfl _ (k0_off2_wordsbf16 c r)) (hdst := (Memref.isWhole_whole cc0_scratch0).wordExact_slice rfl _ (k0_off2_wordsbf16 c r)) _ _ (semAt_0 r) (semAt_1 r)
    rfl (by show gPts (right c) (lb (right c) (r.val + 1)) 0 fullShare (full m) = _; rw [lb_right])
    f1 (Orem c (r.val + 1) + tallyAt (dcell (left c) 3 r) () N) (Orem c r.val) (Orem_peel c r) W) $$ [Hlo1 Hd1 HO Ht0 Ht1]
  · isplitr; · iexact HR
    isplitl [Hlo1]; · iexact Hlo1
    isplitl [Hd1]; · iexact Hd1
    isplitl [HO]; · iexact HO
    isplitl [Ht0] <;> iassumption
  iintro ⟨Hc0, HO⟩
  iapply (wp_send_piece m K c (left c) _ (dev4_eq c) (hb c r.val) 1 2 3 r _ (ccwPiece_eq c r) (hsrc := (Memref.isWhole_whole cc0_scratch0).wordExact_slice rfl _ (k0_off3_wordsbf16 c r)) (hdst := (Memref.isWhole_whole cc0_scratch0).wordExact_slice rfl _ (k0_off3_wordsbf16 c r)) _ _ (semAt_2 r) (semAt_3 r)
    rfl (by show gPts (left c) (hb (left c) (r.val + 1)) 1 fullShare (full m) = _; rw [hb_left])
    f3 (Orem c (r.val + 1)) _ rfl W) $$ [Hhi1 Hd3 HO Ht2 Ht3]
  · isplitr; · iexact HR
    isplitl [Hhi1]; · iexact Hhi1
    isplitl [Hd3]; · iexact Hd3
    isplitl [HO]; · iexact HO
    isplitl [Ht2] <;> iassumption
  iintro ⟨Hc2, HO⟩
  iapply Hk
  isplitr [HO]
  · unfold Mid
    isplitl [Hlo2]; · iexact Hlo2
    isplitl [Hhi2]; · iexact Hhi2
    isplitl [Hc0]; · iexact Hc0
    isplitl [Hc2]; · iexact Hc2
    iexact Hown
  iexact HO

theorem hop_wait (c : Dev nD) (r : Fin 15) (W : Waits sig Unit)
    {Q : α → sProp 𝕄} {k : PUnit → Prog (TpuEff nD τ sig (Elt F) Λ₀ .tc) α} :
    iprop(records m K ∗ levAts L lv ∗ Mid m c r ∗ owes (c : Thread nD τ) (Orem c (r.val + 1)) W)
      ⊢ iprop(((Done m c r ∗ gPts c (lb c (r.val + 1)) 0 fullShare (full m) ∗ gPts c (hb c (r.val + 1)) 1 fullShare (full m)
              ∗ ∃ W, owes (c : Thread nD τ) (Orem c (r.val + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
            (hopWait gM (Memref.isWhole_whole _) cc0_scratch1 cc0_scratch2 cc0_scratch3 cc0_scratch4 c r >>= k) Q) := by
  unfold hopWait Mid Own
  simp only [Prog.lift, Prog.bind_op, Prog.bind_ret, Prog.pure_eq_ret]
  iintro ⟨#HR, #Hlev, ⟨Hlo, Hhi, Hc0, Hc2, Ha0, Ha1, Ha2, Ha3, Hc1, Hc3⟩, HO⟩ Hk
  iapply (wp_wait_piece m K c (lb c r.val) 0 0 r _ (cwPiece_eq c r) (hsrc := (Memref.isWhole_whole cc0_scratch0).wordExact_slice rfl _ (k0_off2_wordsbf16 c r)) (hdst := (Memref.isWhole_whole cc0_scratch0).wordExact_slice rfl _ (k0_off2_wordsbf16 c r)) _ (semAt_0 r) W) $$ [Hc0 HO Ha0]
  · isplitr; · iexact HR
    isplitr; · iexact Hlev
    isplitl [Hc0]; · iexact Hc0
    isplitl [HO] <;> iassumption
  iintro ⟨⟨%W1, HO⟩, Hz0, Hp0⟩
  iapply (wp_wait_piece m K c (lb c r.val) 0 1 r _ (cwPiece_eq c r) (hsrc := (Memref.isWhole_whole cc0_scratch0).wordExact_slice rfl _ (k0_off2_wordsbf16 c r)) (hdst := (Memref.isWhole_whole cc0_scratch0).wordExact_slice rfl _ (k0_off2_wordsbf16 c r)) _ (semAt_1 r) W1) $$ [Hc1 HO Ha1]
  · isplitr; · iexact HR
    isplitr; · iexact Hlev
    isplitl [Hc1]; · iexact Hc1
    isplitl [HO] <;> iassumption
  iintro ⟨⟨%W2, HO⟩, Hz1, Hp1⟩
  iapply (wp_wait_piece m K c (hb c r.val) 1 2 r _ (ccwPiece_eq c r) (hsrc := (Memref.isWhole_whole cc0_scratch0).wordExact_slice rfl _ (k0_off3_wordsbf16 c r)) (hdst := (Memref.isWhole_whole cc0_scratch0).wordExact_slice rfl _ (k0_off3_wordsbf16 c r)) _ (semAt_2 r) W2) $$ [Hc2 HO Ha2]
  · isplitr; · iexact HR
    isplitr; · iexact Hlev
    isplitl [Hc2]; · iexact Hc2
    isplitl [HO] <;> iassumption
  iintro ⟨⟨%W3, HO⟩, Hz2, Hp2⟩
  iapply (wp_wait_piece m K c (hb c r.val) 1 3 r _ (ccwPiece_eq c r) (hsrc := (Memref.isWhole_whole cc0_scratch0).wordExact_slice rfl _ (k0_off3_wordsbf16 c r)) (hdst := (Memref.isWhole_whole cc0_scratch0).wordExact_slice rfl _ (k0_off3_wordsbf16 c r)) _ (semAt_3 r) W3) $$ [Hc3 HO Ha3]
  · isplitr; · iexact HR
    isplitr; · iexact Hlev
    isplitl [Hc3]; · iexact Hc3
    isplitl [HO] <;> iassumption
  iintro ⟨HO, Hz3, Hp3⟩
  iapply Hk
  ihave Hp0 := (Entails.of_eq (show xferPay m c (0 : Fin 4).val r.val = gPts c (lb c r.val) 0 fullShare.left (full m) from rfl)) $$ Hp0
  ihave Hp1 := (Entails.of_eq (show xferPay m c (1 : Fin 4).val r.val = gPts c (lb c (r.val + 1)) 0 fullShare (full m) from rfl)) $$ Hp1
  ihave Hp2 := (Entails.of_eq (show xferPay m c (2 : Fin 4).val r.val = gPts c (hb c r.val) 1 fullShare.left (full m) from rfl)) $$ Hp2
  ihave Hp3 := (Entails.of_eq (show xferPay m c (3 : Fin 4).val r.val = gPts c (hb c (r.val + 1)) 1 fullShare (full m) from rfl)) $$ Hp3
  unfold Done
  isplitr [Hp1 Hp3 HO]
  · isplitl [Hz0]; · iexact Hz0
    isplitl [Hz1]; · iexact Hz1
    isplitl [Hz2]; · iexact Hz2
    isplitl [Hz3]; · iexact Hz3
    isplitl [Hlo Hp0]
    · iapply (gPts_share c (lb c r.val) 0 (full m)).2
      isplitl [Hp0]; · iexact Hp0
      iexact Hlo
    · iapply (gPts_share c (hb c r.val) 1 (full m)).2
      isplitl [Hp2]; · iexact Hp2
      iexact Hhi
  isplitl [Hp1]; · iexact Hp1
  isplitl [Hp3]; · iexact Hp3
  iexact HO

/-! ## Reading the blocks -/

theorem piece_read {off : Fin 2 → Nat} {b : Fin 16} {h : Fin 2} (e : off = ![128 * b.val, 512 * h.val])
    (inb : ∀ a, off a + S128x512.size a ≤ S2048x1024.size a) (f : Wide F) :
    gM.view.readAt (Elt F) (Rect.unit (s := S2048x1024) off S128x512.size inb).toLoadRect f = pieceV b h f := by
  subst e; rfl
theorem piece_sub {off : Fin 2 → Nat} {b : Fin 16} {h : Fin 2} (e : off = ![128 * b.val, 512 * h.val])
    (inb : ∀ a, off a + S128x512.size a ≤ S2048x1024.size a) :
    gM.view.setOn (Rect.unit (s := S2048x1024) off S128x512.size inb).set ⊆ pset b h := by
  subst e; rw [gM_setOn]; exact Finset.Subset.refl _

theorem load_piece {Q : α → sProp 𝕄} {off : Fin 2 → Nat} (c : Dev nD) (b : Fin 16) (h : Fin 2) (e : off = ![128 * b.val, 512 * h.val])
    (inb : ∀ a, off a + S128x512.size a ≤ S2048x1024.size a) (q : PosShare TreeShare) (f : Wide F)
    {hl : gM.view.LoadsAt (Rect.unit (s := S2048x1024) off S128x512.size inb).toLoadRect}
    {kb : Vec F S128x512 .bf16 → Prog (TpuEff nD τ sig (Elt F) Λ₀ .tc) α} :
    gPts c b h q f ⊢ iprop((gPts c b h q f -∗ wp frame (wpE (defs₀ (F := F)) 𝒱₀ (c : Thread nD τ) none) Set.univ (kb (pieceV b h f)) Q)
      -∗ wp frame (wpE (defs₀ (F := F)) 𝒱₀ (c : Thread nD τ) none) Set.univ
        (.op (.load gM (Rect.unit (s := S2048x1024) off S128x512.size inb).toLoadRect hl) kb) Q) := by
  subst e
  exact wp_load 𝒱₀ (c : Thread nD τ) none Set.univ (m := gM) (piece_sub rfl inb)

theorem load_lo {Q : α → sProp 𝕄} (c : Dev nD) (lo hi : Vec F S2048x512 .bf16)
    {hl : oM.view.LoadsAt loR.toLoadRect} {kb : Vec F S2048x512 .bf16 → Prog (TpuEff nD τ sig (Elt F) Λ₀ .tc) α} :
    outP c (halves lo hi) ⊢ iprop((outP c (halves lo hi) -∗ wp frame (wpE (defs₀ (F := F)) 𝒱₀ (c : Thread nD τ) none) Set.univ (kb lo) Q)
      -∗ wp frame (wpE (defs₀ (F := F)) 𝒱₀ (c : Thread nD τ) none) Set.univ (.op (.load oM loR.toLoadRect hl) kb) Q) := by
  have e : kb lo = kb (oM.view.readAt (Elt F) loR.toLoadRect (halves lo hi)) := congrArg kb (read_lo lo hi).symm
  rw [e]
  exact wp_load 𝒱₀ (c : Thread nD τ) none Set.univ (m := oM) (Finset.subset_univ _)
theorem load_hi {Q : α → sProp 𝕄} (c : Dev nD) (lo hi : Vec F S2048x512 .bf16)
    {hl : oM.view.LoadsAt hiR.toLoadRect} {kb : Vec F S2048x512 .bf16 → Prog (TpuEff nD τ sig (Elt F) Λ₀ .tc) α} :
    outP c (halves lo hi) ⊢ iprop((outP c (halves lo hi) -∗ wp frame (wpE (defs₀ (F := F)) 𝒱₀ (c : Thread nD τ) none) Set.univ (kb hi) Q)
      -∗ wp frame (wpE (defs₀ (F := F)) 𝒱₀ (c : Thread nD τ) none) Set.univ (.op (.load oM hiR.toLoadRect hl) kb) Q) := by
  have e : kb hi = kb (oM.view.readAt (Elt F) hiR.toLoadRect (halves lo hi)) := congrArg kb (read_hi lo hi).symm
  rw [e]
  exact wp_load 𝒱₀ (c : Thread nD τ) none Set.univ (m := oM) (Finset.subset_univ _)
theorem store_lo {Q : α → sProp 𝕄} {k : PUnit → Prog (TpuEff nD τ sig (Elt F) Λ₀ .tc) α} (c : Dev nD) (lo hi v : Vec F S2048x512 .bf16) {hx : (oM.access loR).Stores Finset.univ}
    {hm : (Finset.univ : Finset loR.shape.Idx) = Finset.univ ∨ ∀ a, loR.stride a = 1} :
    outP c (halves lo hi) ⊢ iprop((outP c (halves v hi) -∗ wp frame (wpE (defs₀ (F := F)) 𝒱₀ (c : Thread nD τ) none) Set.univ (k ⟨⟩) Q)
      -∗ wp frame (wpE (defs₀ (F := F)) 𝒱₀ (c : Thread nD τ) none) Set.univ (.op (.store oM loR v Finset.univ hx hm) k) Q) := by
  have e : (oM.access loR : View sig .tc _ _ _).write (Elt F) (halves lo hi) v Finset.univ = halves v hi := write_lo lo hi v
  rw [← e]
  unfold outP
  exact wp_store 𝒱₀ (c : Thread nD τ) none Set.univ (m := oM) (r := loR) (w := v) (Mk := Finset.univ) (hx := hx) (hm := hm) (f := halves lo hi) (Finset.subset_univ _)
theorem store_hi {Q : α → sProp 𝕄} {k : PUnit → Prog (TpuEff nD τ sig (Elt F) Λ₀ .tc) α} (c : Dev nD) (lo hi v : Vec F S2048x512 .bf16) {hx : (oM.access hiR).Stores Finset.univ}
    {hm : (Finset.univ : Finset hiR.shape.Idx) = Finset.univ ∨ ∀ a, hiR.stride a = 1} :
    outP c (halves lo hi) ⊢ iprop((outP c (halves lo v) -∗ wp frame (wpE (defs₀ (F := F)) 𝒱₀ (c : Thread nD τ) none) Set.univ (k ⟨⟩) Q)
      -∗ wp frame (wpE (defs₀ (F := F)) 𝒱₀ (c : Thread nD τ) none) Set.univ (.op (.store oM hiR v Finset.univ hx hm) k) Q) := by
  have e : (oM.access hiR : View sig .tc _ _ _).write (Elt F) (halves lo hi) v Finset.univ = halves lo v := write_hi lo hi v
  rw [← e]
  unfold outP
  exact wp_store 𝒱₀ (c : Thread nD τ) none Set.univ (m := oM) (r := hiR) (w := v) (Mk := Finset.univ) (hx := hx) (hm := hm) (f := halves lo hi) (Finset.subset_univ _)

theorem hop_add (c : Dev nD) (r : Fin 15) (q : PosShare TreeShare)
    {Q : α → sProp 𝕄} {k : PUnit → Prog (TpuEff nD τ sig (Elt F) Λ₀ .tc) α} :
    iprop(gPts c (lb c (r.val + 1)) 0 q (full m) ∗ gPts c (hb c (r.val + 1)) 1 q (full m) ∗ outP c (halves (accLo m c r.val) (accHi m c r.val)))
      ⊢ iprop(((gPts c (lb c (r.val + 1)) 0 q (full m) ∗ gPts c (hb c (r.val + 1)) 1 q (full m)
              ∗ outP c (halves (accLo m c (r.val + 1)) (accHi m c (r.val + 1))))
            -∗ wp frame (wpE (defs₀ (F := F)) 𝒱₀ (c : Thread nD τ) none) Set.univ (k ⟨⟩) Q)
          -∗ wp frame (wpE (defs₀ (F := F)) 𝒱₀ (c : Thread nD τ) none) Set.univ
            (hopAdd oM (Memref.isWhole_whole _) gM c (posWord c) (gslAt m c) r >>= k) Q) := by
  unfold hopAdd outLo outHi setLo setHi
  simp only [Prog.lift, Prog.bind_op, Prog.bind_ret, Prog.pure_eq_ret]
  iintro ⟨Hl, Hh, Ho⟩ Hk
  iapply (load_lo c _ _) $$ Ho; iintro Ho
  iapply (load_piece c (lb c (r.val + 1)) 0 (off6_eq c r) _ q (full m)) $$ Hl; iintro Hl
  iapply (load_lo c _ _) $$ Ho; iintro Ho
  iapply (store_lo c _ _ _) $$ Ho; iintro Ho
  iapply (load_hi c _ _) $$ Ho; iintro Ho
  iapply (load_piece c (hb c (r.val + 1)) 1 (off7_eq c r) _ q (full m)) $$ Hh; iintro Hh
  iapply (load_hi c _ _) $$ Ho; iintro Ho
  iapply (store_hi c _ _ _) $$ Ho; iintro Ho
  iapply Hk
  isplitl [Hl]; · iexact Hl
  isplitl [Hh]; · iexact Hh
  iexact Ho

theorem own_add (c : Dev nD) (q : PosShare TreeShare) (f : Wide F)
    {Q : α → sProp 𝕄} {k : PUnit → Prog (TpuEff nD τ sig (Elt F) Λ₀ .tc) α} :
    iprop(gPts c (lb c 0) 0 q (full m) ∗ gPts c (hb c 0) 1 q (full m) ∗ outP c f)
      ⊢ iprop(((gPts c (lb c 0) 0 q (full m) ∗ gPts c (hb c 0) 1 q (full m) ∗ outP c (halves (accLo m c 0) (accHi m c 0)))
            -∗ wp frame (wpE (defs₀ (F := F)) 𝒱₀ (c : Thread nD τ) none) Set.univ (k ⟨⟩) Q)
          -∗ wp frame (wpE (defs₀ (F := F)) 𝒱₀ (c : Thread nD τ) none) Set.univ
            (ownAdd oM (Memref.isWhole_whole _) gM c (oneHot (gslAt m c) (posWord c)) >>= k) Q) := by
  unfold ownAdd outLo outHi setLo setHi
  simp only [Prog.lift, Prog.bind_op, Prog.bind_ret, Prog.pure_eq_ret]
  rw [lb_zero, hb_zero, halves_eta f]
  iintro ⟨Hl, Hh, Ho⟩ Hk
  iapply (load_piece c (pos c) 0 (off4_eq c) _ q (full m)) $$ Hl; iintro Hl
  iapply (load_lo c _ _) $$ Ho; iintro Ho
  iapply (store_lo c _ _ _) $$ Ho; iintro Ho
  iapply (load_piece c (pos c) 1 (off5_eq c) _ q (full m)) $$ Hh; iintro Hh
  iapply (load_hi c _ _) $$ Ho; iintro Ho
  iapply (store_hi c _ _ _) $$ Ho; iintro Ho
  iapply Hk
  isplitl [Hl]; · iexact Hl
  isplitl [Hh]; · iexact Hh
  iexact Ho

end Hop

end Cert.Proof.Ring

end
-- ==== Proof.Loop.lean ====
/-
The ring by induction over its hops, and the experts' stores by induction over the experts.
-/
module

public import proofs.«01_k».proof.Proof.Steps

@[expose] public section

noncomputable section

namespace Cert.Proof.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-! ## The ring -/

/-- The hops from number `n` on, not started; and those below `n`, over. -/
def readyFrom (c : Dev nD) (n : ℕ) : sProp 𝕄 := bigSep (Finset.univ.filter fun t : Fin 15 => n ≤ t.val) (Ready c)
def doneBelow (c : Dev nD) (n : ℕ) : sProp 𝕄 := bigSep (Finset.univ.filter fun t : Fin 15 => t.val < n) (Done m c)

theorem below_succ (s : Fin 15) : Finset.univ.filter (fun t : Fin 15 => t.val < s.val + 1) = insert s (Finset.univ.filter fun t : Fin 15 => t.val < s.val) := by
  ext t
  simp only [Finset.mem_filter, Finset.mem_univ, true_and, Finset.mem_insert, Fin.ext_iff]
  omega

theorem readyFrom_peel (c : Dev nD) (s : Fin 15) : (readyFrom c s.val : sProp 𝕄) = iprop(Ready c s ∗ readyFrom c (s.val + 1)) := by
  unfold readyFrom
  rw [from_succ, bigSep_insert (notMem_from s)]
  rfl
theorem doneBelow_succ (c : Dev nD) (s : Fin 15) : (doneBelow m c (s.val + 1) : sProp 𝕄) = iprop(Done m c s ∗ doneBelow m c s.val) := by
  unfold doneBelow
  rw [below_succ, bigSep_insert (by simp)]
  rfl

/-- After hop `n` is over: the blocks it brought, not yet added. -/
def Inv (c : Dev nD) (n : ℕ) : sProp 𝕄 :=
  iprop(readyFrom c (n + 1) ∗ doneBelow m c (n + 1)
    ∗ gPts c (lb c (n + 1)) 0 fullShare (full m) ∗ gPts c (hb c (n + 1)) 1 fullShare (full m)
    ∗ (∃ W, owes (c : Thread nD τ) (Orem c (n + 1)) W) ∗ outP c (halves (accLo m c n) (accHi m c n)))

section Run

variable {α : Type}

theorem hops_run (c : Dev nD) (k : ℕ) (h : k ≤ 14) : ∀ (n : ℕ) (hn : n + k = 14)
    {Q : α → sProp 𝕄} {kt : PUnit → Prog (TpuEff nD τ sig (Elt F) Λ₀ .tc) α},
    iprop(records m K ∗ levAts L lv ∗ Inv m c n)
      ⊢ iprop((Inv m c 14 -∗ wp frame (wpE (defs₀ (F := F)) 𝒱₀ (c : Thread nD τ) none) Set.univ (kt ⟨⟩) Q)
          -∗ wp frame (wpE (defs₀ (F := F)) 𝒱₀ (c : Thread nD τ) none) Set.univ
            (hops oM (Memref.isWhole_whole _) gM (Memref.isWhole_whole _) cc0_scratch1 cc0_scratch2 cc0_scratch3 cc0_scratch4
              c (posWord c) (gslAt m c) k h >>= kt) Q) := by
  induction k with
  | zero =>
    intro n hn Q kt
    obtain rfl : n = 14 := by omega
    unfold hops
    simp only [Prog.pure_eq_ret, Prog.bind_ret]
    iintro ⟨-, -, HI⟩ Hk
    iapply Hk; iexact HI
  | succ k ih =>
    intro n hn Q kt
    have hk : k ≤ 14 := by omega
    have h1 : n + 1 < 15 := by omega
    have h0 : n < 15 := by omega
    have e : (⟨14 - k, by omega⟩ : Fin 15) = ⟨n + 1, h1⟩ := Fin.ext (by show 14 - k = n + 1; omega)
    have e' : (⟨13 - k, by omega⟩ : Fin 15) = ⟨n, h0⟩ := Fin.ext (by show 13 - k = n; omega)
    unfold hops
    rw [e, e']
    simp only [Prog.bind_assoc]
    unfold Inv
    iintro ⟨#HR, #Hlev, Hrd, Hdn, Hl, Hh, ⟨%W, HO⟩, Ho⟩ Hk
    ihave Hrd' := (Entails.of_eq (readyFrom_peel c ⟨n + 1, h1⟩)) $$ Hrd
    icases Hrd' with ⟨Hr, Hrd⟩
    iapply (hop_send m K c ⟨n + 1, h1⟩ W) $$ [Hr Hl Hh HO]
    · isplitr; · iexact HR
      isplitl [Hr]; · iexact Hr
      isplitl [Hl]; · iexact Hl
      isplitl [Hh] <;> iassumption
    unfold Mid
    iintro ⟨⟨Hl, Hh, Hmid⟩, HO⟩
    iapply (hop_add m c ⟨n, h0⟩ fullShare.right) $$ [Hl Hh Ho]
    · isplitl [Hl]; · iexact Hl
      isplitl [Hh] <;> iassumption
    iintro ⟨Hl, Hh, Ho⟩
    iapply (hop_wait m K c ⟨n + 1, h1⟩ W) $$ [Hl Hh Hmid HO]
    · isplitr; · iexact HR
      isplitr; · iexact Hlev
      isplitr [HO]
      · unfold Mid
        isplitl [Hl]; · iexact Hl
        isplitl [Hh]; · iexact Hh
        iexact Hmid
      iexact HO
    iintro ⟨Hd, Hl, Hh, HO⟩
    iapply (ih hk (n + 1) (by omega)) $$ [Hrd Hdn Hd Hl Hh HO Ho]
    · isplitr; · iexact HR
      isplitr; · iexact Hlev
      unfold Inv
      isplitl [Hrd]; · iexact Hrd
      isplitl [Hdn Hd]
      · iapply (Entails.of_eq (doneBelow_succ m c ⟨n + 1, h1⟩).symm)
        isplitl [Hd]; · iexact Hd
        iexact Hdn
      isplitl [Hl]; · iexact Hl
      isplitl [Hh]; · iexact Hh
      isplitl [HO]; · iexact HO
      iexact Ho
    iexact Hk

/-- What the ring leaves. -/
def ringPost (c : Dev nD) : sProp 𝕄 :=
  iprop(doneBelow m c 15 ∗ gPts c (lb c 15) 0 fullShare (full m) ∗ gPts c (hb c 15) 1 fullShare (full m)
    ∗ (∃ W, owes (c : Thread nD τ) 0 W) ∗ outP c (outAt m c))

theorem ring_run (c : Dev nD) (W : Waits sig Unit) (f : Wide F)
    {Q : α → sProp 𝕄} {kt : PUnit → Prog (TpuEff nD τ sig (Elt F) Λ₀ .tc) α} :
    iprop(records m K ∗ levAts L lv ∗ readyFrom c 0 ∗ gPts c (lb c 0) 0 fullShare (full m) ∗ gPts c (hb c 0) 1 fullShare (full m)
        ∗ owes (c : Thread nD τ) (Orem c 0) W ∗ outP c f)
      ⊢ iprop((ringPost m c -∗ wp frame (wpE (defs₀ (F := F)) 𝒱₀ (c : Thread nD τ) none) Set.univ (kt ⟨⟩) Q)
          -∗ wp frame (wpE (defs₀ (F := F)) 𝒱₀ (c : Thread nD τ) none) Set.univ
            (ring oM (Memref.isWhole_whole _) gM (Memref.isWhole_whole _) cc0_scratch1 cc0_scratch2 cc0_scratch3 cc0_scratch4
              c (posWord c) (gslAt m c) >>= kt) Q) := by
  unfold ring
  simp only [Prog.bind_assoc]
  iintro ⟨#HR, #Hlev, Hrd, Hl, Hh, HO, Ho⟩ Hk
  ihave Hrd' := (Entails.of_eq (show (readyFrom c 0 : sProp 𝕄) = iprop(Ready c 0 ∗ readyFrom c 1) from readyFrom_peel c 0)) $$ Hrd
  icases Hrd' with ⟨Hr, Hrd⟩
  iapply (hop_send m K c 0 W) $$ [Hr Hl Hh HO]
  · isplitr; · iexact HR
    isplitl [Hr]; · iexact Hr
    isplitl [Hl]; · iexact Hl
    isplitl [Hh]; · iexact Hh
    iexact HO
  unfold Mid
  iintro ⟨⟨Hl, Hh, Hmid⟩, HO⟩
  iapply (own_add m c fullShare.right f) $$ [Hl Hh Ho]
  · isplitl [Hl]; · iexact Hl
    isplitl [Hh]; · iexact Hh
    iexact Ho
  iintro ⟨Hl, Hh, Ho⟩
  iapply (hop_wait m K c 0 W) $$ [Hl Hh Hmid HO]
  · isplitr; · iexact HR
    isplitr; · iexact Hlev
    isplitr [HO]
    · unfold Mid
      isplitl [Hl]; · iexact Hl
      isplitl [Hh]; · iexact Hh
      iexact Hmid
    iexact HO
  iintro ⟨Hd, Hl, Hh, HO⟩
  iapply (hops_run m K c 14 (le_refl _) 0 rfl) $$ [Hrd Hd Hl Hh HO Ho]
  · isplitr; · iexact HR
    isplitr; · iexact Hlev
    unfold Inv
    isplitl [Hrd]; · iexact Hrd
    isplitl [Hd]
    · iapply (Entails.of_eq (doneBelow_succ m c 0).symm)
      isplitl [Hd]; · iexact Hd
      unfold doneBelow
      rw [show (Finset.univ.filter fun t : Fin 15 => t.val < (0 : Fin 15).val) = ∅ by decide, bigSep_empty]
      iempintro
    isplitl [Hl]; · iexact Hl
    isplitl [Hh]; · iexact Hh
    isplitl [HO]; · iexact HO
    iexact Ho
  unfold Inv
  iintro ⟨-, Hdn, Hl, Hh, ⟨%W', HO⟩, Ho⟩
  iapply (hop_add m c 14 fullShare) $$ [Hl Hh Ho]
  · isplitl [Hl]; · iexact Hl
    isplitl [Hh]; · iexact Hh
    iexact Ho
  iintro ⟨Hl, Hh, Ho⟩
  iapply Hk
  unfold ringPost
  isplitl [Hdn]; · iexact Hdn
  isplitl [Hl]; · iexact Hl
  isplitl [Hh]; · iexact Hh
  isplitl [HO]
  · iexists W'
    rw [← Orem_last c]; iexact HO
  iexact Ho

/-! ## The experts -/

/-- The device's own rows of the gather buffer; its weights' staging buffer. -/
def ownP (c : Dev nD) (f : Wide F) : sProp 𝕄 :=
  ((c : Thread nD τ).loc cc0_scratch0) ↦[(pset (pos c) 0 ∪ pset (pos c) 1 : Finset (cc0_scratch0 : Ref sig .tc).ty.Idx)]{fullShare} f
def wP (c : Dev nD) (f : (cc0_stg2_0 : Ref sig .tc).ty.Contents (Elt F)) : sProp 𝕄 := ((c : Thread nD τ).loc cc0_stg2_0) ↦{fullShare} f

theorem load_exp {Q : α → sProp 𝕄} (c : Dev nD) (le : Fin 8) (f : Wide F) {hl : gM.view.LoadsAt (expR c le).toLoadRect}
    {kb : Vec F S16x1024 .bf16 → Prog (TpuEff nD τ sig (Elt F) Λ₀ .tc) α} :
    ownP c f ⊢ iprop((ownP c f -∗ wp frame (wpE (defs₀ (F := F)) 𝒱₀ (c : Thread nD τ) none) Set.univ (kb ((gM.access (expR c le) : View sig .tc _ _ _).read (Elt F) f)) Q)
      -∗ wp frame (wpE (defs₀ (F := F)) 𝒱₀ (c : Thread nD τ) none) Set.univ (.op (.load gM (expR c le).toLoadRect hl) kb) Q) := by
  unfold ownP
  exact wp_load_rect 𝒱₀ (c : Thread nD τ) none Set.univ (m := gM) (r := expR c le) (f := f) (exp_set c le)
theorem store_exp {Q : α → sProp 𝕄} {k : PUnit → Prog (TpuEff nD τ sig (Elt F) Λ₀ .tc) α} (c : Dev nD) (le : Fin 8) (f : Wide F) (v : Vec F S16x1024 .bf16)
    {hx : (gM.access (expR c le)).Stores Finset.univ} {hm : (Finset.univ : Finset (expR c le).shape.Idx) = Finset.univ ∨ ∀ a, (expR c le).stride a = 1} :
    ownP c f ⊢ iprop((ownP c ((gM.access (expR c le) : View sig .tc _ _ _).write (Elt F) f v Finset.univ)
          -∗ wp frame (wpE (defs₀ (F := F)) 𝒱₀ (c : Thread nD τ) none) Set.univ (k ⟨⟩) Q)
      -∗ wp frame (wpE (defs₀ (F := F)) 𝒱₀ (c : Thread nD τ) none) Set.univ (.op (.store gM (expR c le) v Finset.univ hx hm) k) Q) := by
  unfold ownP
  exact wp_store 𝒱₀ (c : Thread nD τ) none Set.univ (m := gM) (r := expR c le) (w := v) (Mk := Finset.univ) (hx := hx) (hm := hm) (f := f) (exp_set c le)
theorem load_w {Q : α → sProp 𝕄} (c : Dev nD) (le : Fin 8)
    {hl : wM.view.LoadsAt (Rect.unit (s := S8x512x1024) ![le.val, 0, 0] S1x512x1024.size (inb_weights le)).toLoadRect}
    {kb : Vec F S1x512x1024 .bf16 → Prog (TpuEff nD τ sig (Elt F) Λ₀ .tc) α} :
    wP c (wstg m c) ⊢ iprop((wP c (wstg m c) -∗ wp frame (wpE (defs₀ (F := F)) 𝒱₀ (c : Thread nD τ) none) Set.univ (kb (wAt m c le)) Q)
      -∗ wp frame (wpE (defs₀ (F := F)) 𝒱₀ (c : Thread nD τ) none) Set.univ
        (.op (.load wM (Rect.unit (s := S8x512x1024) ![le.val, 0, 0] S1x512x1024.size (inb_weights le)).toLoadRect hl) kb) Q) := by
  unfold wP wAt
  exact wp_load 𝒱₀ (c : Thread nD τ) none Set.univ (m := wM) (Finset.subset_univ _)

theorem experts_run (c : Dev nD) (k : ℕ) (h : k ≤ 8) : ∀ (f : Wide F)
    (hf : ∀ i : S2048x1024.Idx, 128 * (pos c).val ≤ (i 0).val → (i 0).val < 128 * (pos c).val + 16 * (8 - k) → f i = full m i)
    {Q : α → sProp 𝕄} {kt : PUnit → Prog (TpuEff nD τ sig (Elt F) Λ₀ .tc) α},
    iprop(wP c (wstg m c) ∗ ownP c f)
      ⊢ iprop(((wP c (wstg m c) ∗ ownP c (full m)) -∗ wp frame (wpE (defs₀ (F := F)) 𝒱₀ (c : Thread nD τ) none) Set.univ (kt ⟨⟩) Q)
          -∗ wp frame (wpE (defs₀ (F := F)) 𝒱₀ (c : Thread nD τ) none) Set.univ
            (experts wM gM (Memref.isWhole_whole _) c (xgAt m c) k h >>= kt) Q) := by
  induction k with
  | zero =>
    intro f hf Q kt
    have e : (ownP c f : sProp 𝕄) = ownP c (full m) := pointsTo_congr fun i hi => by
      rcases Finset.mem_union.mp hi with h | h <;> obtain ⟨h0, -⟩ := mem_pset.mp h <;> exact hf i (by omega) (by omega)
    unfold experts
    simp only [Prog.pure_eq_ret, Prog.bind_ret]
    rw [e]
    iintro ⟨Hw, Hf⟩ Hk
    iapply Hk
    isplitl [Hw] <;> iassumption
  | succ k ih =>
    intro f hf Q kt
    unfold experts expertStore
    simp only [Prog.bind_assoc, Prog.lift, Prog.bind_op, Prog.bind_ret, Prog.pure_eq_ret]
    have hk : k ≤ 8 := by omega
    have h7 : 7 - k < 8 := by omega
    iintro ⟨Hw, Hf⟩ Hk
    iapply (load_w m c ⟨7 - k, h7⟩) $$ Hw; iintro Hw
    iapply (load_exp c ⟨7 - k, h7⟩ f) $$ Hf; iintro Hf
    iapply (store_exp c ⟨7 - k, h7⟩ f _) $$ Hf; iintro Hf
    iapply (ih hk _ (fun i h0 h1 => exp_step m c ⟨7 - k, h7⟩ f (fun i h0 h1 => hf i h0 (by
      have : (⟨7 - k, h7⟩ : Fin 8).val = 8 - (k + 1) := by show 7 - k = _; omega
      omega)) i h0 (by show _ < _ + 16 * (7 - k + 1); omega))) $$ [Hw Hf]
    · isplitl [Hw]; · iexact Hw
      iexact Hf
    iexact Hk

end Run

end Cert.Proof.Ring

end
-- ==== Proof.BodyEq.lean ====
/-
# The grouped body is the printed one
-/
module

public import proofs.«01_k».proof.Proof.Body

@[expose] public section

noncomputable section

namespace Cert.Proof.Ring

open Cert.KernelIdeal Cert.KernelIdeal.Gen

open Idealize.ShloMosaic Idealize.SL.Sem

variable {F : FTy → Type} [FloatOps F]

/-- The printed parts from the first hop on, over the values they read. -/
def printedTail (arg0 : Memref sig .tc .vmem S2048x512 .bf16) (harg0 : arg0.IsWhole) (arg1 : Memref sig .tc .vmem S2048x1 .i32) (harg1 : arg1.IsWhole) (arg2 : Memref sig .tc .vmem S8x512x1024 .bf16) (harg2 : arg2.IsWhole) (arg3 : Memref sig .tc .vmem S2048x1024 .bf16) (harg3 : arg3.IsWhole) (arg4 : Memref sig .tc .vmem S2048x1024 .bf16) (harg4 : arg4.IsWhole) (arg5 : DmaSems sig S15) (arg6 : DmaSems sig S15) (arg7 : DmaSems sig S15) (arg8 : DmaSems sig S15)
    (d0 : Dev nD) (v32 v65 v97 : BitVec 32) (v440 : IVec S2048x1 32) (v449 : FVec F S2048x128 .bf16) (c0_i32_250 : BitVec 32) :
    Prog (TpuEff nD τ sig (Elt F) Λ₀ .tc) PUnit := do
  let v573 : FVec F S2048x512 .f32 ← k0_part15 arg0 harg0 arg1 harg1 arg2 harg2 arg3 harg3 arg4 harg4 arg5 arg6 arg7 arg8 d0 v32 v65 v97 v449 c0_i32_250
  let c1_i32_302 : BitVec 32 ← k0_part16 arg0 harg0 arg1 harg1 arg2 harg2 arg3 harg3 arg4 harg4 arg5 arg6 arg7 arg8 d0 v32 v65 v97 v573
  let ⟨v622, v625, v627, v633⟩ : Σ' (v622 : BitVec 32) (v625 : BitVec 32) (v627 : FVec F S2048x512 .bf16), IVec S2048x128 1 ← k0_part17 arg0 harg0 arg1 harg1 arg2 harg2 arg3 harg3 arg4 harg4 arg5 arg6 arg7 arg8 d0 v32 v65 v97 v440 c1_i32_302
  k0_part18 arg0 harg0 arg1 harg1 arg2 harg2 arg3 harg3 arg4 harg4 arg5 arg6 arg7 arg8 d0 v97 v440 v622 v625 v627 v633
  k0_part19 arg0 harg0 arg1 harg1 arg2 harg2 arg3 harg3 arg4 harg4 arg5 arg6 arg7 arg8 d0 v32 v65 v97
  let ⟨v711, v731, v732, c128_i32_398⟩ : Σ' (v711 : BitVec 32) (v731 : FVec F S2048x512 .bf16) (v732 : IVec S2048x128 32), BitVec 32 ← k0_part20 arg0 harg0 arg1 harg1 arg2 harg2 arg3 harg3 arg4 harg4 arg5 arg6 arg7 arg8 d0 v32 v65 v440
  k0_part21 arg0 harg0 arg1 harg1 arg2 harg2 arg3 harg3 arg4 harg4 arg5 arg6 arg7 arg8 d0 v65 v97 v440 v711 v731 v732 c128_i32_398
  let ⟨v794, c1_i32_449⟩ : Σ' (v794 : BitVec 32), BitVec 32 ← k0_part22 arg0 harg0 arg1 harg1 arg2 harg2 arg3 harg3 arg4 harg4 arg5 arg6 arg7 arg8 d0 v32 v65 v97
  k0_part23 arg0 harg0 arg1 harg1 arg2 harg2 arg3 harg3 arg4 harg4 arg5 arg6 arg7 arg8 d0 v32 v440 v794 c1_i32_449
  k0_part24 arg0 harg0 arg1 harg1 arg2 harg2 arg3 harg3 arg4 harg4 arg5 arg6 arg7 arg8 d0 v32 v65 v97
  let ⟨v883, v885, v894⟩ : Σ' (v883 : BitVec 32) (v885 : FVec F S2048x512 .bf16), FVec F S2048x128 .bf16 ← k0_part25 arg0 harg0 arg1 harg1 arg2 harg2 arg3 harg3 arg4 harg4 arg5 arg6 arg7 arg8 d0 v32 v65 v97 v440
  k0_part26 arg0 harg0 arg1 harg1 arg2 harg2 arg3 harg3 arg4 harg4 arg5 arg6 arg7 arg8 d0 v97 v440 v883 v885 v894
  k0_part27 arg0 harg0 arg1 harg1 arg2 harg2 arg3 harg3 arg4 harg4 arg5 arg6 arg7 arg8 d0 v32 v65 v97
  let ⟨v969, v989, v996⟩ : Σ' (v969 : BitVec 32) (v989 : FVec F S2048x512 .bf16), IVec S2048x128 32 ← k0_part28 arg0 harg0 arg1 harg1 arg2 harg2 arg3 harg3 arg4 harg4 arg5 arg6 arg7 arg8 d0 v32 v440
  k0_part29 arg0 harg0 arg1 harg1 arg2 harg2 arg3 harg3 arg4 harg4 arg5 arg6 arg7 arg8 d0 v65 v97 v969 v989 v996
  let ⟨v1052, v1055⟩ : Σ' (v1052 : BitVec 32), BitVec 32 ← k0_part30 arg0 harg0 arg1 harg1 arg2 harg2 arg3 harg3 arg4 harg4 arg5 arg6 arg7 arg8 d0 v32 v65 v97
  k0_part31 arg0 harg0 arg1 harg1 arg2 harg2 arg3 harg3 arg4 harg4 arg5 arg6 arg7 arg8 d0 v440 v1052 v1055
  k0_part32 arg0 harg0 arg1 harg1 arg2 harg2 arg3 harg3 arg4 harg4 arg5 arg6 arg7 arg8 d0 v32 v65 v97
  let ⟨v1141, v1158⟩ : Σ' (v1141 : BitVec 32), FVec F S2048x512 .bf16 ← k0_part33 arg0 harg0 arg1 harg1 arg2 harg2 arg3 harg3 arg4 harg4 arg5 arg6 arg7 arg8 d0 v32 v65 v440
  k0_part34 arg0 harg0 arg1 harg1 arg2 harg2 arg3 harg3 arg4 harg4 arg5 arg6 arg7 arg8 d0 v97 v440 v1141 v1158
  k0_part35 arg0 harg0 arg1 harg1 arg2 harg2 arg3 harg3 arg4 harg4 arg5 arg6 arg7 arg8 d0 v32 v65 v97
  let ⟨v1247, v1256⟩ : Σ' (v1247 : FVec F S2048x512 .bf16), FVec F S2048x128 .bf16 ← k0_part36 arg0 harg0 arg1 harg1 arg2 harg2 arg3 harg3 arg4 harg4 arg5 arg6 arg7 arg8 d0 v32 v440
  let ⟨v1285, c16_i32_812⟩ : Σ' (v1285 : BitVec 32), BitVec 32 ← k0_part37 arg0 harg0 arg1 harg1 arg2 harg2 arg3 harg3 arg4 harg4 arg5 arg6 arg7 arg8 d0 v32 v65 v97 v1247 v1256
  let ⟨v1310, v1313, v1315, v1316, v1317⟩ : Σ' (v1310 : BitVec 32) (v1313 : BitVec 32) (v1315 : FVec F S2048x512 .bf16) (v1316 : IVec S2048x128 32), BitVec 32 ← k0_part38 arg0 harg0 arg1 harg1 arg2 harg2 arg3 harg3 arg4 harg4 arg5 arg6 arg7 arg8 d0 v32 v65 v97 v1285 c16_i32_812
  let c1_i32_859 : BitVec 32 ← k0_part39 arg0 harg0 arg1 harg1 arg2 harg2 arg3 harg3 arg4 harg4 arg5 arg6 arg7 arg8 d0 v440 v1310 v1313 v1315 v1316 v1317
  k0_part40 arg0 harg0 arg1 harg1 arg2 harg2 arg3 harg3 arg4 harg4 arg5 arg6 arg7 arg8 d0 v32 v65 v97 c1_i32_859
  let v1399 : BitVec 32 ← k0_part41 arg0 harg0 arg1 harg1 arg2 harg2 arg3 harg3 arg4 harg4 arg5 arg6 arg7 arg8 d0 v32 v65 v440
  k0_part42 arg0 harg0 arg1 harg1 arg2 harg2 arg3 harg3 arg4 harg4 arg5 arg6 arg7 arg8 d0 v97 v440 v1399
  let ⟨v1480, c16_i32_959⟩ : Σ' (v1480 : BitVec 32), BitVec 32 ← k0_part43 arg0 harg0 arg1 harg1 arg2 harg2 arg3 harg3 arg4 harg4 arg5 arg6 arg7 arg8 d0 v32 v65 v97
  let v1520 : FVec F S2048x512 .bf16 ← k0_part44 arg0 harg0 arg1 harg1 arg2 harg2 arg3 harg3 arg4 harg4 arg5 arg6 arg7 arg8 d0 v32 v440 v1480 c16_i32_959
  let ⟨v1546, c16_i32_1007⟩ : Σ' (v1546 : BitVec 32), BitVec 32 ← k0_part45 arg0 harg0 arg1 harg1 arg2 harg2 arg3 harg3 arg4 harg4 arg5 arg6 arg7 arg8 d0 v32 v65 v97 v1520
  let ⟨v1568, v1571, v1573, v1581⟩ : Σ' (v1568 : BitVec 32) (v1571 : BitVec 32) (v1573 : FVec F S2048x512 .bf16), FVec F S2048x128 .f32 ← k0_part46 arg0 harg0 arg1 harg1 arg2 harg2 arg3 harg3 arg4 harg4 arg5 arg6 arg7 arg8 d0 v32 v65 v97 v440 v1546 c16_i32_1007
  k0_part47 arg0 harg0 arg1 harg1 arg2 harg2 arg3 harg3 arg4 harg4 arg5 arg6 arg7 arg8 d0 v97 v440 v1568 v1571 v1573 v1581
  let v1643 : BitVec 32 ← k0_part48 arg0 harg0 arg1 harg1 arg2 harg2 arg3 harg3 arg4 harg4 arg5 arg6 arg7 arg8 d0 v32 v65 v97
  let ⟨v1657, v1677, v1678, v1680⟩ : Σ' (v1657 : BitVec 32) (v1677 : FVec F S2048x512 .bf16) (v1678 : IVec S2048x128 32), IVec S2048x128 32 ← k0_part49 arg0 harg0 arg1 harg1 arg2 harg2 arg3 harg3 arg4 harg4 arg5 arg6 arg7 arg8 d0 v32 v440 v1643
  k0_part50 arg0 harg0 arg1 harg1 arg2 harg2 arg3 harg3 arg4 harg4 arg5 arg6 arg7 arg8 d0 v65 v97 v440 v1657 v1677 v1678 v1680
  let ⟨v1740, v1741, c13_i32_1154⟩ : Σ' (v1740 : BitVec 32) (v1741 : BitVec 32), BitVec 32 ← k0_part51 arg0 harg0 arg1 harg1 arg2 harg2 arg3 harg3 arg4 harg4 arg5 arg6 arg7 arg8 d0 v32 v65 v97
  k0_part52 arg0 harg0 arg1 harg1 arg2 harg2 arg3 harg3 arg4 harg4 arg5 arg6 arg7 arg8 d0 v440 v1740 v1741 c13_i32_1154
  let ⟨v1803, v1806, v1807⟩ : Σ' (v1803 : BitVec 32) (v1806 : BitVec 32), Vec F S2048x512 .bf16 ← k0_part53 arg0 harg0 arg1 harg1 arg2 harg2 arg3 harg3 arg4 harg4 arg5 arg6 arg7 arg8 d0 v32 v65 v97
  let v1820 : Vec F S128x512 .bf16 ← Prog.lift (.load arg4 (Rect.unit (s := S2048x1024) (k0_off6 d0 14#32) S128x512.size (k0_off6_inb d0 14)).toLoadRect (View.loadsAt_vmem h_S128x512))
  let v1824 : Vec F S2048x512 .bf16 ← Prog.lift (.load arg3 (Rect.unit (s := S2048x1024) ![0, 0] S2048x512.size inb_S2048x1024_S2048x512_0_0).toLoadRect (View.loadsAt_vmem h_S2048x512))
  Prog.lift (.store arg3 (Rect.unit (s := S2048x1024) ![0, 0] S2048x512.size inb_S2048x1024_S2048x512_0_0) (k0_pay1 (k0_pay141 v1807) (k0_pay142 v1803) (k0_pay143 v440) v1820) Finset.univ (View.stores_vmem h_S2048x512 (harg3.storeExact_slice rfl _ packedbf16_S2048x1024_S2048x512_0_0) (fun _ => rfl)) (.inl rfl))
  let v1825 : Vec F S2048x512 .bf16 ← Prog.lift (.load arg3 (Rect.unit (s := S2048x1024) ![0, 512] S2048x512.size inb_S2048x1024_S2048x512_0_512).toLoadRect (View.loadsAt_vmem h_S2048x512))
  let v1838 : Vec F S128x512 .bf16 ← Prog.lift (.load arg4 (Rect.unit (s := S2048x1024) (k0_off7 d0 14#32) S128x512.size (k0_off7_inb d0 14)).toLoadRect (View.loadsAt_vmem h_S128x512))
  let v1842 : Vec F S2048x512 .bf16 ← Prog.lift (.load arg3 (Rect.unit (s := S2048x1024) ![0, 512] S2048x512.size inb_S2048x1024_S2048x512_0_512).toLoadRect (View.loadsAt_vmem h_S2048x512))
  Prog.lift (.store arg3 (Rect.unit (s := S2048x1024) ![0, 512] S2048x512.size inb_S2048x1024_S2048x512_0_512) (k0_pay2 v440 v1806 v1825 v1838) Finset.univ (View.stores_vmem h_S2048x512 (harg3.storeExact_slice rfl _ packedbf16_S2048x1024_S2048x512_0_512) (fun _ => rfl)) (.inl rfl))
  pure ⟨⟩

set_option maxRecDepth 100000 in
set_option maxHeartbeats 4000000 in
/-- They are the ring. -/
theorem printedTail_eq (arg0 : Memref sig .tc .vmem S2048x512 .bf16) (harg0 : arg0.IsWhole) (arg1 : Memref sig .tc .vmem S2048x1 .i32) (harg1 : arg1.IsWhole) (arg2 : Memref sig .tc .vmem S8x512x1024 .bf16) (harg2 : arg2.IsWhole) (arg3 : Memref sig .tc .vmem S2048x1024 .bf16) (harg3 : arg3.IsWhole) (arg4 : Memref sig .tc .vmem S2048x1024 .bf16) (harg4 : arg4.IsWhole) (arg5 : DmaSems sig S15) (arg6 : DmaSems sig S15) (arg7 : DmaSems sig S15) (arg8 : DmaSems sig S15) (d0 : Dev nD) (v32 v65 v97 : BitVec 32) (v440 : IVec S2048x1 32) :
    printedTail arg0 harg0 arg1 harg1 arg2 harg2 arg3 harg3 arg4 harg4 arg5 arg6 arg7 arg8 d0 v32 v65 v97 v440 (oneHot (F := F) v440 v32) 0#32
      = ring arg3 harg3 arg4 harg4 arg5 arg6 arg7 arg8 d0 v32 v440 := by
  generalize hp : oneHot (F := F) v440 v32 = p
  unfold printedTail ring
  rw [hp]
  simp only [k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, hops, hopSend, hopWait, hopAdd, ownAdd, outLo, outHi, setLo, setHi, bind_assoc, pure_bind]
  rfl

/-- The printed body up to the first hop, and the rest of it. -/
def printed (arg0 : Memref sig .tc .vmem S2048x512 .bf16) (harg0 : arg0.IsWhole) (arg1 : Memref sig .tc .vmem S2048x1 .i32) (harg1 : arg1.IsWhole) (arg2 : Memref sig .tc .vmem S8x512x1024 .bf16) (harg2 : arg2.IsWhole) (arg3 : Memref sig .tc .vmem S2048x1024 .bf16) (harg3 : arg3.IsWhole) (arg4 : Memref sig .tc .vmem S2048x1024 .bf16) (harg4 : arg4.IsWhole) (arg5 : DmaSems sig S15) (arg6 : DmaSems sig S15) (arg7 : DmaSems sig S15) (arg8 : DmaSems sig S15) : Prog (TpuEff nD τ sig (Elt F) Λ₀ .tc) PUnit := do
  let ⟨d0, v2, v28, c14_i32_12⟩ : Σ' (d0 : Dev nD) (v2 : BitVec 32) (v28 : BitVec 32), BitVec 32 ← k0_part1 arg0 harg0 arg1 harg1 arg2 harg2 arg3 harg3 arg4 harg4 arg5 arg6 arg7 arg8
  let ⟨v32, v35, v57, v58⟩ : Σ' (v32 : BitVec 32) (v35 : BitVec 32) (v57 : BitVec 32), BitVec 1 ← k0_part2 arg0 harg0 arg1 harg1 arg2 harg2 arg3 harg3 arg4 harg4 arg5 arg6 arg7 arg8 v2 v28 c14_i32_12
  let ⟨v65, v67, v87, c11_i32_73⟩ : Σ' (v65 : BitVec 32) (v67 : BitVec 32) (v87 : BitVec 32), BitVec 32 ← k0_part3 arg0 harg0 arg1 harg1 arg2 harg2 arg3 harg3 arg4 harg4 arg5 arg6 arg7 arg8 v32 v35 v57 v58
  let ⟨v97, v104, v107, v110, v116, v118, v119, v121, v122, v123⟩ : Σ' (v97 : BitVec 32) (v104 : IVec S2048x1 32) (v107 : IVec S2048x128 1) (v110 : FVec F S2048x128 .bf16) (v116 : FVec F S128x128 .bf16) (v118 : FVec F S128x128 .f32) (v119 : FVec F S1x128 .f32) (v121 : FVec F S128x128 .f32) (v122 : FVec F S1x128 .f32), FVec F S128x128 .bf16 ← k0_part4 arg0 harg0 arg1 harg1 arg2 harg2 arg3 harg3 arg4 harg4 arg5 arg6 arg7 arg8 d0 v65 v67 v87 c11_i32_73
  let ⟨v124, v125, v127, v128, v130, v131, v133, v134, v136, v137, v139, v140, v142, v143, v145, v146, v148, v149, v151, v152, v154, v155, v157, v158, v160, v161, v163, v164, v166, v167, cst_107⟩ : Σ' (v124 : FVec F S128x128 .f32) (v125 : FVec F S1x128 .f32) (v127 : FVec F S128x128 .f32) (v128 : FVec F S1x128 .f32) (v130 : FVec F S128x128 .f32) (v131 : FVec F S1x128 .f32) (v133 : FVec F S128x128 .f32) (v134 : FVec F S1x128 .f32) (v136 : FVec F S128x128 .f32) (v137 : FVec F S1x128 .f32) (v139 : FVec F S128x128 .f32) (v140 : FVec F S1x128 .f32) (v142 : FVec F S128x128 .f32) (v143 : FVec F S1x128 .f32) (v145 : FVec F S128x128 .f32) (v146 : FVec F S1x128 .f32) (v148 : FVec F S128x128 .f32) (v149 : FVec F S1x128 .f32) (v151 : FVec F S128x128 .f32) (v152 : FVec F S1x128 .f32) (v154 : FVec F S128x128 .f32) (v155 : FVec F S1x128 .f32) (v157 : FVec F S128x128 .f32) (v158 : FVec F S1x128 .f32) (v160 : FVec F S128x128 .f32) (v161 : FVec F S1x128 .f32) (v163 : FVec F S128x128 .f32) (v164 : FVec F S1x128 .f32) (v166 : FVec F S128x128 .f32) (v167 : IVec S128x128 1), F .f32 ← k0_part5 arg0 harg0 arg1 harg1 arg2 harg2 arg3 harg3 arg4 harg4 arg5 arg6 arg7 arg8 v107 v110 v116 v118 v123
  let ⟨v171, v181, v191, v201, v211, v212, v213⟩ : Σ' (v171 : FVec F S128x1 .f32) (v181 : FVec F S128x1 .f32) (v191 : FVec F S128x1 .f32) (v201 : FVec F S128x1 .f32) (v211 : FVec F S128x1 .f32) (v212 : FVec F S1x128 .f32), FVec F S1x128 .f32 ← k0_part6 arg0 harg0 arg1 harg1 arg2 harg2 arg3 harg3 arg4 harg4 arg5 arg6 arg7 arg8 v107 v119 v121 v122 v124 v125 v127 v128 v130 v131 v164 v166 v167 cst_107
  let ⟨v221, v231, v241, v251, v254, v259⟩ : Σ' (v221 : FVec F S128x1 .f32) (v231 : FVec F S128x1 .f32) (v241 : FVec F S128x1 .f32) (v251 : FVec F S128x1 .f32) (v254 : FVec F S1x128 .f32), FVec F S128x128 .f32 ← k0_part7 arg0 harg0 arg1 harg1 arg2 harg2 arg3 harg3 arg4 harg4 arg5 arg6 arg7 arg8 v107 v133 v134 v136 v137 v139 v140 v142 v143 v145 v212 v213
  let ⟨v261, v271, v281, v291, v301, v304, v306⟩ : Σ' (v261 : FVec F S128x1 .f32) (v271 : FVec F S128x1 .f32) (v281 : FVec F S128x1 .f32) (v291 : FVec F S128x1 .f32) (v301 : FVec F S128x1 .f32) (v304 : FVec F S1x128 .f32), FVec F S128x128 .f32 ← k0_part8 arg0 harg0 arg1 harg1 arg2 harg2 arg3 harg3 arg4 harg4 arg5 arg6 arg7 arg8 v107 v146 v148 v149 v151 v152 v154 v155 v157 v158 v160 v254 v259
  let ⟨v324, v326, v350, v351⟩ : Σ' (v324 : FVec F S2048x1 .f32) (v326 : IVec S2048x1 1) (v350 : IVec S2048x1 32), IVec S2048x1 32 ← k0_part9 arg0 harg0 arg1 harg1 arg2 harg2 arg3 harg3 arg4 harg4 arg5 arg6 arg7 arg8 v104 v107 v161 v163 v171 v181 v191 v201 v211 v221 v231 v241 v251 v261 v271 v281 v291 v301 v304 v306
  let v391 : IVec S2048x1 32 ← k0_part10 arg0 harg0 arg1 harg1 arg2 harg2 arg3 harg3 arg4 harg4 arg5 arg6 arg7 arg8 v350 v351
  let ⟨v417, v421, v430, v432⟩ : Σ' (v417 : IVec S2048x1 32) (v421 : IVec S2048x1 32) (v430 : IVec S2048x1 1), IVec S2048x1 32 ← k0_part11 arg0 harg0 arg1 harg1 arg2 harg2 arg3 harg3 arg4 harg4 arg5 arg6 arg7 arg8 v104 v350 v391
  let ⟨v440, v449, v453, v469⟩ : Σ' (v440 : IVec S2048x1 32) (v449 : FVec F S2048x128 .bf16) (v453 : FVec F S128x512 .f32), FVec F S16x1024 .bf16 ← k0_part12 arg0 harg0 arg1 harg1 arg2 harg2 arg3 harg3 arg4 harg4 arg5 arg6 arg7 arg8 d0 v32 v324 v326 v417 v421 v430 v432
  let v502 : FVec F S16x1024 .bf16 ← k0_part13 arg0 harg0 arg1 harg1 arg2 harg2 arg3 harg3 arg4 harg4 arg5 arg6 arg7 arg8 d0 v32 v453 v469
  let c0_i32_250 : BitVec 32 ← k0_part14 arg0 harg0 arg1 harg1 arg2 harg2 arg3 harg3 arg4 harg4 arg5 arg6 arg7 arg8 d0 v32 v453 v502
  printedTail arg0 harg0 arg1 harg1 arg2 harg2 arg3 harg3 arg4 harg4 arg5 arg6 arg7 arg8 d0 v32 v65 v97 v440 v449 c0_i32_250

theorem pay84_eq (v32 : BitVec 32) (v324 : FVec F S2048x1 .f32) (v326 : IVec S2048x1 1) (v417 v421 : IVec S2048x1 32) (v430 : IVec S2048x1 1) (v432 : IVec S2048x1 32) :
    k0_pay84 v32 v324 v326 v417 v421 v430 v432 = oneHot (F := F) (k0_pay83 v324 v326 v417 v421 v430 v432) v32 := rfl

theorem pay85_eq (v32 : BitVec 32) (v324 : FVec F S2048x1 .f32) (v326 : IVec S2048x1 1) (v417 v421 : IVec S2048x1 32) (v430 : IVec S2048x1 1) (v432 : IVec S2048x1 32) (x : Vec F S2048x512 .bf16) :
    k0_pay85 v32 v324 v326 v417 v421 v430 v432 x = gathered (oneHot (F := F) (k0_pay83 v324 v326 v417 v421 v430 v432) v32) x := rfl

set_option maxRecDepth 100000 in
set_option maxHeartbeats 4000000 in
theorem cc0_body_eq_printed : cc0_body (F := F) = fun arg0 harg0 arg1 harg1 arg2 harg2 arg3 harg3 arg4 harg4 arg5 arg6 arg7 arg8 => printed arg0 harg0 arg1 harg1 arg2 harg2 arg3 harg3 arg4 harg4 arg5 arg6 arg7 arg8 := by
  funext arg0 harg0 arg1 harg1 arg2 harg2 arg3 harg3 arg4 harg4 arg5 arg6 arg7 arg8
  rw [cc0_body_eq_skeleton]
  unfold cc0_body_skel printed printedTail
  rw [k0_part54_eq_skeleton]
  unfold k0_part54_skel
  simp only [bind_assoc, pure_bind]

set_option maxRecDepth 100000 in
set_option maxHeartbeats 4000000 in
theorem printed_eq (arg0 : Memref sig .tc .vmem S2048x512 .bf16) (harg0 : arg0.IsWhole) (arg1 : Memref sig .tc .vmem S2048x1 .i32) (harg1 : arg1.IsWhole) (arg2 : Memref sig .tc .vmem S8x512x1024 .bf16) (harg2 : arg2.IsWhole) (arg3 : Memref sig .tc .vmem S2048x1024 .bf16) (harg3 : arg3.IsWhole) (arg4 : Memref sig .tc .vmem S2048x1024 .bf16) (harg4 : arg4.IsWhole) (arg5 : DmaSems sig S15) (arg6 : DmaSems sig S15) (arg7 : DmaSems sig S15) (arg8 : DmaSems sig S15) :
    printed (F := F) arg0 harg0 arg1 harg1 arg2 harg2 arg3 harg3 arg4 harg4 arg5 arg6 arg7 arg8 = body arg0 arg1 arg2 arg3 harg3 arg4 harg4 arg5 arg6 arg7 arg8 := by
  unfold printed body
  simp only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, experts, expertStore, bind_assoc, pure_bind, pay84_eq, pay85_eq, printedTail_eq]
  rfl

/-- The printed body is the grouped one. -/
theorem body_eq (arg0 : Memref sig .tc .vmem S2048x512 .bf16) (harg0 : arg0.IsWhole) (arg1 : Memref sig .tc .vmem S2048x1 .i32) (harg1 : arg1.IsWhole) (arg2 : Memref sig .tc .vmem S8x512x1024 .bf16) (harg2 : arg2.IsWhole) (arg3 : Memref sig .tc .vmem S2048x1024 .bf16) (harg3 : arg3.IsWhole) (arg4 : Memref sig .tc .vmem S2048x1024 .bf16) (harg4 : arg4.IsWhole) (arg5 : DmaSems sig S15) (arg6 : DmaSems sig S15) (arg7 : DmaSems sig S15) (arg8 : DmaSems sig S15) :
    cc0_body (F := F) arg0 harg0 arg1 harg1 arg2 harg2 arg3 harg3 arg4 harg4 arg5 arg6 arg7 arg8 = body arg0 arg1 arg2 arg3 harg3 arg4 harg4 arg5 arg6 arg7 arg8 := by
  rw [cc0_body_eq_printed]
  exact printed_eq arg0 harg0 arg1 harg1 arg2 harg2 arg3 harg3 arg4 harg4 arg5 arg6 arg7 arg8

end Cert.Proof.Ring

end
-- ==== Proof.Sound.lean ====
/-
The body, from what a device starts with to its result: the gather buffer divided, the handshake, the experts, the ring,
and the buffer put together again.
-/
module

public import proofs.«01_k».proof.Proof.Loop
public import proofs.«01_k».proof.Proof.BodyEq

@[expose] public section

noncomputable section

namespace Cert.Proof.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The gather buffer whole and divided -/

def gAll (c : Dev nD) (f : Wide F) : sProp 𝕄 := ((c : Thread nD τ).loc cc0_scratch0) ↦{fullShare} f

theorem gAll_pieces (c : Dev nD) (f : Wide F) :
    (gAll c f : sProp 𝕄) = iprop((bigSep Finset.univ fun b : Fin 16 => gPts c b 0 fullShare f) ∗ (bigSep Finset.univ fun b : Fin 16 => gPts c b 1 fullShare f)) := by
  have h1 : (gAll c f : sProp 𝕄) = bigSep Finset.univ fun p : Fin 16 × Fin 2 => gPts c p.1 p.2 fullShare f := by
    unfold gAll gPts
    have hU := pointsTo_biUnion (Ix := Unit) (Val := Elt F) (Name := ℕ) (U := UU) (Lvl := ℕ) (ℓ := ((c : Thread nD τ).loc cc0_scratch0)) (q := fullShare) (f := f) (Finset.univ : Finset (Fin 16 × Fin 2)) (fun p => pset p.1 p.2)
      (fun p _ q _ h => pset_disjoint h)
    rw [← hU]
    exact congrArg (fun S : Finset (cc0_scratch0 : Ref sig .tc).ty.Idx => (((c : Thread nD τ).loc cc0_scratch0) ↦[S]{fullShare} f : sProp 𝕄)) pset_cover.symm
  rw [h1, bigSep_univ_prod]
  have h2 : ∀ b : Fin 16, (bigSep Finset.univ fun h : Fin 2 => (gPts c b h fullShare f : sProp 𝕄)) = iprop(gPts c b 0 fullShare f ∗ gPts c b 1 fullShare f) :=
    fun b => bigSep_univ_eq_bigSepL [0, 1] (by decide) (by decide) _
  rw [bigSep_congr fun b _ => h2 b, bigSep_sep']

theorem univ_first : (Finset.univ : Finset (Fin 16)) = insert 0 (Finset.univ.map (Fin.succEmb 15)) := by decide
theorem univ_last : (Finset.univ : Finset (Fin 16)) = insert 15 (Finset.univ.map Fin.castSuccEmb) := by decide

theorem bigSep_first (Φ : Fin 16 → sProp 𝕄) : bigSep Finset.univ Φ = iprop(Φ 0 ∗ bigSep Finset.univ fun s : Fin 15 => Φ s.succ) := by
  rw [univ_first, bigSep_insert (by decide), bigSep_map]; rfl
theorem bigSep_last (Φ : Fin 16 → sProp 𝕄) : bigSep Finset.univ Φ = iprop(Φ 15 ∗ bigSep Finset.univ fun s : Fin 15 => Φ s.castSucc) := by
  rw [univ_last, bigSep_insert (by decide), bigSep_map]; rfl

theorem lb_around (c : Dev nD) (Φ : Fin 16 → sProp 𝕄) : bigSep Finset.univ Φ = bigSep Finset.univ fun n : Fin 16 => Φ (lb c n.val) :=
  bigSep_univ_equiv (Equiv.ofBijective _ (lb_bij c)) Φ
theorem hb_around (c : Dev nD) (Φ : Fin 16 → sProp 𝕄) : bigSep Finset.univ Φ = bigSep Finset.univ fun n : Fin 16 => Φ (hb c n.val) :=
  bigSep_univ_equiv (Equiv.ofBijective _ (hb_bij c)) Φ

theorem gAll_first (c : Dev nD) (f : Wide F) :
    (gAll c f : sProp 𝕄) = iprop((gPts c (lb c 0) 0 fullShare f ∗ bigSep Finset.univ fun s : Fin 15 => gPts c (lb c (s.val + 1)) 0 fullShare f)
      ∗ (gPts c (hb c 0) 1 fullShare f ∗ bigSep Finset.univ fun s : Fin 15 => gPts c (hb c (s.val + 1)) 1 fullShare f)) := by
  rw [gAll_pieces, lb_around c (fun b => gPts c b 0 fullShare f), hb_around c (fun b => gPts c b 1 fullShare f), bigSep_first, bigSep_first]
  rfl
theorem gAll_last (c : Dev nD) (f : Wide F) :
    (gAll c f : sProp 𝕄) = iprop((gPts c (lb c 15) 0 fullShare f ∗ bigSep Finset.univ fun s : Fin 15 => gPts c (lb c s.val) 0 fullShare f)
      ∗ (gPts c (hb c 15) 1 fullShare f ∗ bigSep Finset.univ fun s : Fin 15 => gPts c (hb c s.val) 1 fullShare f)) := by
  rw [gAll_pieces, lb_around c (fun b => gPts c b 0 fullShare f), hb_around c (fun b => gPts c b 1 fullShare f), bigSep_last, bigSep_last]
  rfl

theorem own_split (c : Dev nD) (f : Wide F) : (ownP c f : sProp 𝕄) = iprop(gPts c (lb c 0) 0 fullShare f ∗ gPts c (hb c 0) 1 fullShare f) := by
  rw [lb_zero, hb_zero]
  unfold ownP gPts
  have hu := pointsTo_union (Ix := Unit) (Val := Elt F) (Name := ℕ) (U := UU) (Lvl := ℕ) (ℓ := ((c : Thread nD τ).loc cc0_scratch0)) (I := pset (pos c) 0) (J := pset (pos c) 1) (q := fullShare) (f := f) (pset_disjoint (p := (pos c, 0)) (q := (pos c, 1)) (fun h => absurd (congrArg Prod.snd h) (show ¬ (0 : Fin 2) = 1 by decide)))
  exact BI.equiv_iff.mp ⟨hu.1, hu.2⟩

/-! ## What a device starts with -/

/-- The duties a device pays: its signals, and its transfers. -/
def payToks (c : Dev nD) : sProp 𝕄 :=
  iprop(dutyTok ER (barCell (left c)) 0 true ∗ dutyTok ER (barCell (right c)) 0 false
    ∗ bigSep Finset.univ fun s : Fin 15 => iprop(dutyTok ER (dcell c 0 s) 0 false ∗ dutyTok ER (dcell (right c) 1 s) 0 false
      ∗ dutyTok ER (dcell c 2 s) 0 false ∗ dutyTok ER (dcell (left c) 3 s) 0 false))
def linear (c : Dev nD) : sProp 𝕄 :=
  iprop((bigSep Finset.univ fun k : CK => atPos ER (kcell (c, k)) 0 ∅ 0) ∗ payToks c)

def recvCreds (c : Dev nD) : sProp 𝕄 :=
  bigSep Finset.univ fun s : Fin 15 => iprop(cred (tallyAt (dcell c 1 s) () N) ∗ cred (tallyAt (dcell c 3 s) () N))

def start (c : Dev nD) : sProp 𝕄 :=
  iprop((∃ K, records m K ∗ linear c) ∗ cred (tallyAt (barCell c) () 2) ∗ recvCreds c ∗ levAts L lv)

/-- The transfer cells closed. -/
def ownZero (c : Dev nD) : sProp 𝕄 := bigSep Finset.univ fun k : Fin 4 × Fin 15 => semVal (dcell c k.1 k.2) 0

def Φ₀ (c : Dev nD) : sProp 𝕄 := iprop(start m c ∗ ∃ f, gAll c f)
def Φ₁ (c : Dev nD) : sProp 𝕄 := iprop(gAll c (full m) ∗ ownZero c ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => ristg m c
    | ⟨2, _⟩ => wstg m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

/-- A device's cells: the barrier cell, then hop by hop. -/
theorem cells_by_hop (c : Dev nD) (Φ : GSem nD τ sig → sProp 𝕄) :
    (bigSep Finset.univ fun k : CK => Φ (kcell (c, k)))
      = iprop(Φ (barCell c) ∗ (bigSep Finset.univ fun s : Fin 15 => Φ (dcell c 0 s)) ∗ (bigSep Finset.univ fun s : Fin 15 => Φ (dcell c 1 s))
        ∗ (bigSep Finset.univ fun s : Fin 15 => Φ (dcell c 2 s)) ∗ (bigSep Finset.univ fun s : Fin 15 => Φ (dcell c 3 s))) := by
  rw [bigSep_univ_sum, bigSep_univ_prod, bigSep_fin4]
  refine congrArg (fun A : sProp 𝕄 => iprop(A ∗ _)) ?_
  exact bigSep_singleton

theorem ownZero_eq (c : Dev nD) : (ownZero c : sProp 𝕄)
    = iprop((bigSep Finset.univ fun s : Fin 15 => semVal (dcell c 0 s) 0) ∗ (bigSep Finset.univ fun s : Fin 15 => semVal (dcell c 1 s) 0)
        ∗ (bigSep Finset.univ fun s : Fin 15 => semVal (dcell c 2 s) 0) ∗ (bigSep Finset.univ fun s : Fin 15 => semVal (dcell c 3 s) 0)) := by
  unfold ownZero
  rw [bigSep_univ_prod, bigSep_fin4]

/-- All the hops, made ready by the handshake. -/
theorem ready_intro (c : Dev nD) :
    iprop((bigSep Finset.univ fun s : Fin 15 => iprop(dutyTok ER (dcell c 0 s) 0 false ∗ dutyTok ER (dcell (right c) 1 s) 0 false
          ∗ dutyTok ER (dcell c 2 s) 0 false ∗ dutyTok ER (dcell (left c) 3 s) 0 false))
        ∗ barPay c true ∗ barPay c false
        ∗ (bigSep Finset.univ fun s : Fin 15 => atPos ER (dcell c 0 s) 0 ∅ 0) ∗ (bigSep Finset.univ fun s : Fin 15 => atPos ER (dcell c 1 s) 0 ∅ 0)
        ∗ (bigSep Finset.univ fun s : Fin 15 => atPos ER (dcell c 2 s) 0 ∅ 0) ∗ (bigSep Finset.univ fun s : Fin 15 => atPos ER (dcell c 3 s) 0 ∅ 0)
        ∗ recvCreds c)
      ⊢ (readyFrom c 0 : sProp 𝕄) := by
  have e : (readyFrom c 0 : sProp 𝕄) = bigSep Finset.univ (Ready c) := by
    unfold readyFrom
    rw [show (Finset.univ.filter fun t : Fin 15 => 0 ≤ t.val) = Finset.univ by decide]
  rw [e]
  unfold recvCreds
  have et : (barPay c true : sProp 𝕄) = bigSep Finset.univ fun s : Fin 15 => iprop(∃ f, gPts (right c) (lb c s.val) 0 fullShare f) := rfl
  have ef : (barPay c false : sProp 𝕄) = bigSep Finset.univ fun s : Fin 15 => iprop(∃ f, gPts (left c) (hb c s.val) 1 fullShare f) := rfl
  rw [et, ef]
  simp only [← bigSep_sep']
  refine bigSep_mono fun s _ => (?_ : (iprop((dutyTok ER (dcell c 0 s) 0 false ∗ dutyTok ER (dcell (right c) 1 s) 0 false
          ∗ dutyTok ER (dcell c 2 s) 0 false ∗ dutyTok ER (dcell (left c) 3 s) 0 false)
        ∗ (∃ f, gPts (right c) (lb c s.val) 0 fullShare f) ∗ (∃ f, gPts (left c) (hb c s.val) 1 fullShare f)
        ∗ atPos ER (dcell c 0 s) 0 ∅ 0 ∗ atPos ER (dcell c 1 s) 0 ∅ 0 ∗ atPos ER (dcell c 2 s) 0 ∅ 0 ∗ atPos ER (dcell c 3 s) 0 ∅ 0
        ∗ cred (tallyAt (dcell c 1 s) () N) ∗ cred (tallyAt (dcell c 3 s) () N)) : sProp 𝕄) ⊢ (Ready c s : sProp 𝕄))
  unfold Ready Own
  iintro ⟨⟨H0, H1, H2, H3⟩, Ht, Hf, A0, A1, A2, A3, C1, C3⟩
  isplitl [H0]; · iexact H0
  isplitl [H1]; · iexact H1
  isplitl [H2]; · iexact H2
  isplitl [H3]; · iexact H3
  isplitl [Ht]; · iexact Ht
  isplitl [Hf]; · iexact Hf
  isplitl [A0]; · iexact A0
  isplitl [A1]; · iexact A1
  isplitl [A2]; · iexact A2
  isplitl [A3]; · iexact A3
  isplitl [C1]; · iexact C1
  iexact C3

/-- All the hops over, with the last blocks: the whole gather buffer, and the transfer cells closed. -/
theorem done_elim (c : Dev nD) :
    iprop(doneBelow m c 15 ∗ gPts c (lb c 15) 0 fullShare (full m) ∗ gPts c (hb c 15) 1 fullShare (full m))
      ⊢ iprop(gAll c (full m) ∗ ownZero c) := by
  have e : (doneBelow m c 15 : sProp 𝕄) = bigSep Finset.univ (Done m c) := by
    unfold doneBelow
    rw [show (Finset.univ.filter fun t : Fin 15 => t.val < 15) = Finset.univ by decide]
  rw [e, gAll_last, ownZero_eq]
  unfold Done
  simp only [bigSep_sep']
  iintro ⟨⟨Z0, Z1, Z2, Z3, Hl, Hh⟩, Hl', Hh'⟩
  isplitl [Hl Hl' Hh Hh']
  · isplitl [Hl Hl']
    · isplitl [Hl'] <;> iassumption
    · isplitl [Hh'] <;> iassumption
  isplitl [Z0]; · iexact Z0
  isplitl [Z1]; · iexact Z1
  isplitl [Z2] <;> iassumption

/-- What the first signal hands over: the other positions' low halves. -/
theorem pay_left (c : Dev nD) (f : Wide F) :
    (bigSep Finset.univ fun s : Fin 15 => gPts c (lb c (s.val + 1)) 0 fullShare f) ⊢ (barPay (left c) true : sProp 𝕄) := by
  have et : (barPay (left c) true : sProp 𝕄) = bigSep Finset.univ fun s : Fin 15 => iprop(∃ f, gPts (right (left c)) (lb (left c) s.val) 0 fullShare f) := rfl
  rw [et]
  refine bigSep_mono fun s _ => ?_
  rw [right_left, lb_left]
  show (gPts c (lb c (s.val + 1)) 0 fullShare f : sProp 𝕄) ⊢ iprop(∃ f, gPts c (lb c (s.val + 1)) 0 fullShare f)
  iintro H; iexists f; iexact H
theorem pay_right (c : Dev nD) (f : Wide F) :
    (bigSep Finset.univ fun s : Fin 15 => gPts c (hb c (s.val + 1)) 1 fullShare f) ⊢ (barPay (right c) false : sProp 𝕄) := by
  have et : (barPay (right c) false : sProp 𝕄) = bigSep Finset.univ fun s : Fin 15 => iprop(∃ f, gPts (left (right c)) (hb (right c) s.val) 1 fullShare f) := rfl
  rw [et]
  refine bigSep_mono fun s _ => ?_
  rw [left_right, hb_right]
  show (gPts c (hb c (s.val + 1)) 1 fullShare f : sProp 𝕄) ⊢ iprop(∃ f, gPts c (hb c (s.val + 1)) 1 fullShare f)
  iintro H; iexists f; iexact H

/-! ## The body -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem hz : (![0, 0] : Fin 2 → Nat) = fun _ => 0 := funext fun a => by fin_cases a <;> rfl

theorem read_x (f : (cc0_stg0_0 : Ref sig .tc).ty.Contents (Elt F)) :
    xM.view.readAt (Elt F) (Rect.unit (s := S2048x512) ![0, 0] S2048x512.size inb_S2048x512_S2048x512_0_0).toLoadRect f = f :=
  Memref.readAt_unit_zero (Elt F) cc0_stg0_0 hz _ f
theorem read_ri (f : (cc0_stg1_0 : Ref sig .tc).ty.Contents (Elt F)) :
    riM.view.readAt (Elt F) (Rect.unit (s := S2048x1) ![0, 0] S2048x1.size inb_S2048x1_S2048x1_0_0).toLoadRect f = f :=
  Memref.readAt_unit_zero (Elt F) cc0_stg1_0 hz _ f

def bodyPre (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ m c ∗ (dats m ρ 0 c).owesAt () t0_0.succ ∗ stg c cc0_stg0_0 (xstg m c) ∗ stg c cc0_stg1_0 (ristg m c)
    ∗ stg c cc0_stg2_0 (wstg m c) ∗ stg c cc0_stg3_0 (outAt m c))

set_option maxHeartbeats 800000 in
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body xM (Memref.isWhole_whole _) riM (Memref.isWhole_whole _) wM (Memref.isWhole_whole _) oM (Memref.isWhole_whole _)
            gM (Memref.isWhole_whole _) cc0_scratch1 cc0_scratch2 cc0_scratch3 cc0_scratch4) Kt := by
  rw [body_eq]
  unfold body
  simp only [semSignalWord, semWaitWord, Prog.lift, Prog.bind_op, Prog.bind_ret, Prog.pure_eq_ret, wp_deviceId]
  unfold bodyPre Φ₀ start linear payToks
  iintro ⟨⟨⟨⟨⟨%K, #HR, Hat, HtL, HtR, Htoks⟩, HcB, Hcr, #Hlev⟩, ⟨%f0, Hscr⟩⟩, Ho, ⟨%d0, %g0, %hg0, Hx⟩, ⟨%d1, %g1, %hg1, Hri⟩, ⟨%d2, %g2, %hg2, Hw⟩, ⟨%d3, %g3, %hg3, Hout⟩⟩, Hk⟩
  have hx : g0 = xstg m c := by rw [hg0]; unfold Dat.before; rw [if_pos (fetch0_0 t0_0)]; rfl
  have hri : g1 = ristg m c := by rw [hg1]; unfold Dat.before; rw [if_pos (fetch0_1 t0_0)]; rfl
  have hw : g2 = wstg m c := by rw [hg2]; unfold Dat.before; rw [if_pos (fetch0_2 t0_0)]; rfl
  subst hx hri hw
  unfold Dat.owesAt Pipeline.owesWithin
  icases Ho with ⟨%W, %hW, HO⟩
  rw [show (dats m ρ 0 c).owed t0_0.castSucc = O₀ c from rfl]
  simp only [dev1_eq c, dev2_eq c]
  ihave Hat' := (Entails.of_eq (cells_by_hop (F := F) c fun g => atPos ER g 0 ∅ 0)) $$ Hat
  icases Hat' with ⟨HatB, A0, A1, A2, A3⟩
  ihave Hscr' := (Entails.of_eq (gAll_first c f0)) $$ Hscr
  icases Hscr' with ⟨⟨HlO, Hl⟩, HhO, Hh⟩
  -- the first signal, to the left neighbour: the low halves the clockwise hops will write
  unfold O₀
  iapply (Rounds.wp_signal 𝒱₀ ER (Rd m) (c : Thread nD τ) none (dst := (left c : Thread nD τ)) (κ := K (left c, .inl ()))
      (d := true) (by rw [duties_bar]; exact Finset.mem_univ _) ((amount_bar m (left c) true).trans (by decide)) () (O₁ c) rfl)
    $$ [HO HtL Hl]
  · isplitr; · iapply (inv_b m K (left c)); iexact HR
    isplitl [HO]; · iexact HO
    isplitl [HtL]; · iexact HtL
    isplitl [Hl]; · rw [payload_bar]; iapply (pay_left c f0); iexact Hl
    iapply (rch_b m K (left c)); iexact HR
  iintro HO
  -- the second, to the right neighbour: the high halves of the counterclockwise hops
  unfold O₁
  iapply (Rounds.wp_signal 𝒱₀ ER (Rd m) (c : Thread nD τ) none (dst := (right c : Thread nD τ)) (κ := K (right c, .inl ()))
      (d := false) (by rw [duties_bar]; exact Finset.mem_univ _) ((amount_bar m (right c) false).trans (by decide)) () (Orem c 0) rfl)
    $$ [HO HtR Hh]
  · isplitr; · iapply (inv_b m K (right c)); iexact HR
    isplitl [HO]; · iexact HO
    isplitl [HtR]; · iexact HtR
    isplitl [Hh]; · rw [payload_bar]; iapply (pay_right c f0); iexact Hh
    iapply (rch_b m K (right c)); iexact HR
  iintro HO
  -- the wait on its own barrier: both neighbours' halves
  iapply (Rounds.wp_wait_rest_token 𝒱₀ ER (Rd m) (c : Thread nD τ) none (κ := K (c, .inl ()))
      (wpE_semWait_eq 𝒱₀ (c : Thread nD τ) none Set.univ) (Set.mem_univ _) () (O := Orem c 0) (W := W) (R := 0) (m := 0) (T := ∅)
      (by rw [expect_bar]; decide)) $$ [HcB HO HatB]
  · isplitr; · iapply (inv_b m K c); iexact HR
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  icases Hp with ⟨Hpf, Hpt⟩
  imod (Rounds.cell_close ER (Rd m) (Set.mem_univ (K (c, .inl ()))) (fun h => h) (R := 0 + 1) (duties_later m (barCell c))) $$ [HatB] with HzB
  · isplitr; · iapply (inv_b m K c); iexact HR
    iexact HatB
  -- the routing and the tokens read, the experts' rows computed
  iapply (wp_load 𝒱₀ (c : Thread nD τ) none Set.univ (m := riM) (Finset.subset_univ _)) $$ Hri; iintro Hri
  rw [read_ri]
  iapply (wp_load 𝒱₀ (c : Thread nD τ) none Set.univ (m := xM) (Finset.subset_univ _)) $$ Hx; iintro Hx
  rw [read_x]
  rw [show gslOf F (ristg m c) = gslAt m c from rfl, show gathered (oneHot (gslAt m c) (posWord c)) (xstg m c) = xgAt m c from rfl]
  iapply (experts_run m c 8 (le_refl _) f0 (fun i h0 h1 => absurd h1 (by omega))) $$ [Hw HlO HhO]
  · isplitl [Hw]; · unfold wP; iexact Hw
    iapply (Entails.of_eq (own_split c f0).symm)
    isplitl [HlO] <;> iassumption
  iintro ⟨Hw, Hown⟩
  ihave Hown' := (Entails.of_eq (own_split c (full m))) $$ Hown
  icases Hown' with ⟨HlO, HhO⟩
  ihave Hready := (ready_intro (F := F) c) $$ [Htoks Hpt Hpf A0 A1 A2 A3 Hcr]
  · isplitl [Htoks]; · iexact Htoks
    isplitl [Hpt]; · iexact Hpt
    isplitl [Hpf]; · iexact Hpf
    isplitl [A0]; · iexact A0
    isplitl [A1]; · iexact A1
    isplitl [A2]; · iexact A2
    isplitl [A3]; · iexact A3
    iexact Hcr
  -- the ring
  rw [← Prog.bind_pure (ring oM (Memref.isWhole_whole _) gM (Memref.isWhole_whole _) cc0_scratch1 cc0_scratch2 cc0_scratch3 cc0_scratch4 c (posWord c) (gslAt m c))]
  iapply (ring_run m K c _ g3) $$ [Hready HlO HhO HO Hout]
  · isplitr; · iexact HR
    isplitr; · iexact Hlev
    isplitl [Hready]; · iexact Hready
    isplitl [HlO]; · iexact HlO
    isplitl [HhO]; · iexact HhO
    isplitl [HO]; · iexact HO
    unfold outP; iexact Hout
  unfold ringPost
  iintro ⟨Hdn, Hl, Hh, ⟨%W', HO⟩, Hout⟩
  ihave Hfin := (done_elim m c) $$ [Hdn Hl Hh]
  · isplitl [Hdn]; · iexact Hdn
    isplitl [Hl] <;> iassumption
  icases Hfin with ⟨Hg, Hz⟩
  rw [Prog.pure_eq_ret, wp_ret]; imodintro
  iapply Hk
  unfold bodyPost Φ₁ Dat.owesAt Pipeline.owesWithin
  rw [show (dats m ρ 0 c).owed t0_0.succ = 0 from rfl]
  isplitl [Hg Hz HzB]
  · isplitl [Hg]; · iexact Hg
    isplitl [Hz] <;> iassumption
  isplitl [HO]
  · iexists W'
    isplitr; · ipureintro; exact fun _ _ => Or.inl trivial
    iexact HO
  isplitl [Hx]
  · iexists _; isplitr; · (ipureintro; rfl)
    iexact Hx
  isplitl [Hri]
  · iexists _; isplitr; · (ipureintro; rfl)
    iexact Hri
  isplitl [Hw]
  · iexists _; isplitr; · (ipureintro; rfl)
    unfold wP; iexact Hw
  iexists _; isplitr; · (ipureintro; rfl)
  unfold outP; iexact Hout

set_option maxRecDepth 8000 in
theorem body_obligation (c : Dev nD) : BodyObligation (dats (F := F) m ρ 0 c) (defs₀ (F := F)) 𝒱₀ () Set.univ := fun t => by
  rw [fin_N0 t]
  rw [bigSep_W, bigSep_W]
  simp only [owns_whole_eq]
  refine BIBase.Entails.trans (Q := bodyPre m ρ c) (Entails.of_eq rfl) ?_
  refine BIBase.Entails.trans (Q := wp frame (wpE (defs₀ (F := F)) 𝒱₀ c none) Set.univ
    (cc0_body xM (Memref.isWhole_whole _) riM (Memref.isWhole_whole _) wM (Memref.isWhole_whole _) oM (Memref.isWhole_whole _)
            gM (Memref.isWhole_whole _) cc0_scratch1 cc0_scratch2 cc0_scratch3 cc0_scratch4) (fun _ => bodyPost m ρ c)) ?_ ?_
  · iintro H
    iapply (sound_body m ρ c fun _ => bodyPost m ρ c)
    isplitl [H]; · iexact H
    iintro H; iexact H
  · have hp : defs₀ (F := F) Proc.tc cfg0.body (cfg0.bodyArgs t0_0 (cfg0.slots t0_0)) = bodyAt0 (F := F) t0_0 := rfl
    have hb : bodyAt0 (F := F) t0_0 = cc0_body xM (Memref.isWhole_whole _) riM (Memref.isWhole_whole _) wM (Memref.isWhole_whole _) oM (Memref.isWhole_whole _)
            gM (Memref.isWhole_whole _) cc0_scratch1 cc0_scratch2 cc0_scratch3 cc0_scratch4 := rfl
    have hq : (fun _ : PUnit => bodyPost m ρ c) = fun _ => iprop((dats m ρ 0 c).Φ t0_0.succ ∗ (dats m ρ 0 c).owesAt () t0_0.succ
        ∗ stg c cc0_stg0_0 ((dats m ρ 0 c).after (0 : Fin 4) t0_0) ∗ stg c cc0_stg1_0 ((dats m ρ 0 c).after (1 : Fin 4) t0_0)
        ∗ stg c cc0_stg2_0 ((dats m ρ 0 c).after (2 : Fin 4) t0_0) ∗ stg c cc0_stg3_0 ((dats m ρ 0 c).after (3 : Fin 4) t0_0)) := rfl
    rw [hp, hb, hq]

end Cert.Proof.Ring

end
-- ==== Proof.Start.lean ====
/-
The launch: the cells' states and tokens minted and dealt around the ring, the credit the devices start with, and the run
of @main from any memory with zero counters.
-/
module

public import proofs.«01_k».proof.Proof.Sound
public import Idealize.ShloMosaic.Lib.Pipeline.CollectiveSegs

@[expose] public section

noncomputable section

namespace Cert.Proof.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the duties, as launched -/

abbrev osem : Fin 4 × Fin 15 → SemLoc sig := fun k => .dma (dsem k.1 k.2)

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by
  rintro (⟨⟩ | ⟨a, r⟩) (⟨⟩ | ⟨a', r'⟩) h
  · rfl
  · cases h
  · cases h
  · obtain ⟨h1, h2⟩ := dsem_inj (SemLoc.dma.inj h)
    change a = a' at h1
    change r = r' at h2
    rw [h1, h2]

theorem kcell_injective : Function.Injective kcell := by
  rintro ⟨c, k⟩ ⟨c', k'⟩ h
  have h1 : c = c' := Fin.ext (congrArg (fun g : GSem nD τ sig => g.1.1.val) h)
  have h2 : csem k = csem k' := congrArg Prod.snd h
  rw [h1, csem_injective h2]

def allCells : Finset (GSem nD τ sig) := Finset.univ.map ⟨kcell, kcell_injective⟩

/-- The duties of a device's own cells: both signals to its barrier, and one transfer to each other cell. -/
abbrev TK : Type := Bool ⊕ (Fin 4 × Fin 15)
def tokOf (ct : Dev nD × TK) : GSem nD τ sig × ℕ × Bool := match ct.2 with
  | .inl d => (barCell ct.1, 0, d)
  | .inr k => (dcell ct.1 k.1 k.2, 0, false)

theorem tokOf_injective : Function.Injective tokOf := by
  rintro ⟨c, d | ⟨a, r⟩⟩ ⟨c', d' | ⟨a', r'⟩⟩ h
  · have h1 : c = c' := bar_inj (congrArg Prod.fst h)
    have h2 : d = d' := congrArg (fun x : GSem nD τ sig × ℕ × Bool => x.2.2) h
    rw [h1, h2]
  · exact absurd (congrArg Prod.fst h) (bar_ne_dcell c c' a' r')
  · exact absurd (congrArg Prod.fst h).symm (bar_ne_dcell c' c a r)
  · obtain ⟨h1, h2, h3⟩ : c = c' ∧ a = a' ∧ r = r' := dcell_inj (congrArg Prod.fst h)
    rw [h1, h2, h3]

def allToks : Finset (GSem nD τ sig × ℕ × Bool) := Finset.univ.map ⟨tokOf, tokOf_injective⟩

def u₀ : UU :=
  (initOf (Pipeline.cells cfgs cellOf_inj) (Pipeline.launchToks cfgs cellOf_inj), initOf allCells allToks)

/-- The duty tokens of a device's own cells. -/
def toks (c : Dev nD) : sProp 𝕄 :=
  iprop(dutyTok ER (barCell c) 0 false ∗ dutyTok ER (barCell c) 0 true
    ∗ (bigSep Finset.univ fun s : Fin 15 => dutyTok ER (dcell c 0 s) 0 false) ∗ (bigSep Finset.univ fun s : Fin 15 => dutyTok ER (dcell c 1 s) 0 false)
    ∗ (bigSep Finset.univ fun s : Fin 15 => dutyTok ER (dcell c 2 s) 0 false) ∗ (bigSep Finset.univ fun s : Fin 15 => dutyTok ER (dcell c 3 s) 0 false))

theorem sep_regroup (A B C : sProp 𝕄) : iprop((A ∗ B) ∗ C) = (iprop(A ∗ B ∗ C) : sProp 𝕄) := by
  have h1 : iprop((A ∗ B) ∗ C) ⊢ (iprop(A ∗ B ∗ C) : sProp 𝕄) := by
    iintro ⟨⟨HA, HB⟩, HC⟩
    isplitl [HA]; · iexact HA
    isplitl [HB] <;> iassumption
  have h2 : iprop(A ∗ B ∗ C) ⊢ (iprop((A ∗ B) ∗ C) : sProp 𝕄) := by
    iintro ⟨HA, HB, HC⟩
    isplitl [HA HB]
    · isplitl [HA] <;> iassumption
    iexact HC
  exact BI.equiv_iff.mp ⟨h1, h2⟩

theorem toks_eq (c : Dev nD) : (bigSep Finset.univ fun t : TK => (dutyTok ER (tokOf (c, t)).1 (tokOf (c, t)).2.1 (tokOf (c, t)).2.2 : sProp 𝕄)) = toks c := by
  have hb : (bigSep Finset.univ fun d : Bool => (dutyTok ER (barCell c) 0 d : sProp 𝕄)) = iprop(dutyTok ER (barCell c) 0 false ∗ dutyTok ER (barCell c) 0 true) :=
    bigSep_univ_eq_bigSepL [false, true] (by decide) (by decide) _
  have hs : (bigSep Finset.univ fun k : Fin 4 × Fin 15 => (dutyTok ER (dcell c k.1 k.2) 0 false : sProp 𝕄))
      = iprop((bigSep Finset.univ fun s : Fin 15 => dutyTok ER (dcell c 0 s) 0 false) ∗ (bigSep Finset.univ fun s : Fin 15 => dutyTok ER (dcell c 1 s) 0 false)
        ∗ (bigSep Finset.univ fun s : Fin 15 => dutyTok ER (dcell c 2 s) 0 false) ∗ (bigSep Finset.univ fun s : Fin 15 => dutyTok ER (dcell c 3 s) 0 false)) := by
    rw [bigSep_univ_prod, bigSep_fin4]
  have e : (bigSep Finset.univ fun t : TK => (dutyTok ER (tokOf (c, t)).1 (tokOf (c, t)).2.1 (tokOf (c, t)).2.2 : sProp 𝕄))
      = iprop((bigSep Finset.univ fun d : Bool => dutyTok ER (barCell c) 0 d) ∗ bigSep Finset.univ fun k : Fin 4 × Fin 15 => dutyTok ER (dcell c k.1 k.2) 0 false) := by
    rw [bigSep_univ_sum]; rfl
  unfold toks
  rw [e, hb, ← hs]
  exact sep_regroup _ _ _

/-- What the launch deals a device, -/
def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)

/-- and what the devices make of it together. -/
def G' (c : Dev nD) : sProp 𝕄 := iprop(∃ K, records m K ∗ linear c)

theorem fund_ring : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = ownZero c := rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, cells_by_hop (F := F) c fun g => semVal g 0, ownZero_eq]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem dealt_right (Φ : Dev nD → sProp 𝕄) : bigSep Finset.univ Φ = bigSep Finset.univ fun c => Φ (right c) := bigSep_univ_equiv turn Φ
theorem dealt_left (Φ : Dev nD → sProp 𝕄) : bigSep Finset.univ Φ = bigSep Finset.univ fun c => Φ (left c) := bigSep_univ_equiv turn.symm Φ

/-- The tokens dealt around the ring: each duty to the neighbour that pays it. -/
theorem toks_around : (bigSep Finset.univ fun c : Dev nD => (toks c : sProp 𝕄)) ⊢ bigSep Finset.univ fun c : Dev nD => payToks c := by
  unfold toks payToks
  simp only [bigSep_sep']
  rw [dealt_right (F := F) (fun c => dutyTok ER (barCell c) 0 false), dealt_left (F := F) (fun c => dutyTok ER (barCell c) 0 true),
    dealt_right (F := F) (fun c => bigSep Finset.univ fun s : Fin 15 => dutyTok ER (dcell c 1 s) 0 false),
    dealt_left (F := F) (fun c => bigSep Finset.univ fun s : Fin 15 => dutyTok ER (dcell c 3 s) 0 false)]
  iintro ⟨H1, H2, H3, H4, H5, H6⟩
  isplitl [H2]; · iexact H2
  isplitl [H1]; · iexact H1
  isplitl [H3]; · iexact H3
  isplitl [H4]; · iexact H4
  isplitl [H5] <;> iassumption

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem shared_intro (K : Dev nD × CK → ℕ) (c : Dev nD) : iprop(records m K ∗ linear c) ⊢ G' m c := by
  unfold G'
  iintro H
  iexists K
  iexact H

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_around (F := F)) $$ Htok
  iapply (bigSep_with_persistent (R := records m K) fun c _ => shared_intro m K c)
  isplitr
  · unfold records; isplitl; · iexact HI
    iexact HR
  · unfold linear
    iapply (Entails.of_eq (bigSep_sep' Finset.univ (fun c : Dev nD => bigSep Finset.univ fun k : CK => (atPos ER (kcell (c, k)) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem right_eq_iff {c d : Dev nD} : c = right d ↔ d = left c := ⟨fun h => by rw [h, left_right], fun h => by rw [h, right_left]⟩
theorem left_eq_iff {c d : Dev nD} : c = left d ↔ d = right c := ⟨fun h => by rw [h, right_left], fun h => by rw [h, left_right]⟩

theorem owed_bar (d c : Dev nD) : O₀ d (barCell c) () = (if d = left c then 1 else 0) + (if d = right c then 1 else 0) := by
  have h0 : Orem d 0 (barCell c) () = 0 := by
    by_contra hn
    obtain ⟨s, _, h | h⟩ := Orem_pos (Nat.pos_of_ne_zero hn)
    · exact bar_ne_dcell _ _ _ _ h
    · exact bar_ne_dcell _ _ _ _ h
  unfold O₀ O₁
  rw [Pi.add_apply, Finsupp.add_apply, Pi.add_apply, Finsupp.add_apply, h0, Nat.zero_add, tallyAt_apply, tallyAt_apply]
  refine congrArg₂ (· + ·) ?_ ?_
  · by_cases h : d = left c
    · rw [if_pos h, if_pos ⟨congrArg barCell (right_eq_iff.mpr h), rfl⟩]
    · rw [if_neg h, if_neg fun h' => h (right_eq_iff.mp (bar_inj h'.1))]
  · by_cases h : d = right c
    · rw [if_pos h, if_pos ⟨congrArg barCell (left_eq_iff.mpr h), rfl⟩]
    · rw [if_neg h, if_neg fun h' => h (left_eq_iff.mp (bar_inj h'.1))]

theorem owed_hop (d c : Dev nD) (a : Fin 4) (s : Fin 15) : O₀ d (dcell c a s) () = (∑ t : Fin 15, hopOwes d t (dcell c a s) ()) := by
  unfold O₀ O₁
  rw [Pi.add_apply, Finsupp.add_apply, Pi.add_apply, Finsupp.add_apply, Orem_apply, tallyAt_apply, tallyAt_apply,
    if_neg fun h => bar_ne_dcell _ _ _ _ h.1.symm, if_neg fun h => bar_ne_dcell _ _ _ _ h.1.symm, Nat.add_zero,
    show (Finset.univ.filter fun t : Fin 15 => 0 ≤ t.val) = Finset.univ by decide]

theorem owed_cw (d c : Dev nD) (s : Fin 15) : O₀ d (dcell c 1 s) () = if d = left c then N else 0 := by
  rw [owed_hop, Finset.sum_eq_single s]
  · unfold hopOwes
    rw [Pi.add_apply, Finsupp.add_apply, tallyAt_apply, tallyAt_apply, if_neg fun h => absurd (dcell_inj h.1).2.1 (by decide), Nat.zero_add]
    by_cases h : d = left c
    · rw [if_pos h, if_pos ⟨by rw [right_eq_iff.mpr h], rfl⟩]
    · rw [if_neg h, if_neg fun h' => h (right_eq_iff.mp (dcell_inj h'.1).1)]
  · intro t _ ht
    by_contra hn
    obtain h | h := hopOwes_pos (Nat.pos_of_ne_zero hn)
    · exact ht (dcell_inj h).2.2.symm
    · exact ht (dcell_inj h).2.2.symm
  · exact fun h => absurd (Finset.mem_univ _) h

theorem owed_ccw (d c : Dev nD) (s : Fin 15) : O₀ d (dcell c 3 s) () = if d = right c then N else 0 := by
  rw [owed_hop, Finset.sum_eq_single s]
  · unfold hopOwes
    rw [Pi.add_apply, Finsupp.add_apply, tallyAt_apply, tallyAt_apply, if_neg (c := _ ∧ _) (fun h : dcell c 3 s = dcell (right d) 1 s ∧ () = () => absurd (dcell_inj h.1).2.1 (by decide)), Nat.add_zero]
    by_cases h : d = right c
    · rw [if_pos h, if_pos ⟨by rw [left_eq_iff.mpr h], rfl⟩]
    · rw [if_neg h, if_neg fun h' => h (left_eq_iff.mp (dcell_inj h'.1).1)]
  · intro t _ ht
    by_contra hn
    obtain h | h := hopOwes_pos (Nat.pos_of_ne_zero hn)
    · exact ht (dcell_inj h).2.2.symm
    · exact ht (dcell_inj h).2.2.symm
  · exact fun h => absurd (Finset.mem_univ _) h

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (left c) fun _ => 1, Finset.sum_ite_eq' Finset.univ (right c) fun _ => 1, if_pos (Finset.mem_univ _), if_pos (Finset.mem_univ _)]

theorem launch_cw (c : Dev nD) (s : Fin 15) :
    tallyOn (dcell c 1 s) (launchCredit (Pipeline.owing O₀) 0 (dcell c 1 s)) = (tallyAt (dcell c 1 s) () N : CellTallies nD τ sig Unit) := by
  unfold tallyAt; refine congrArg _ (Finsupp.ext fun u => ?_); cases u
  rw [Pipeline.launchCredit_owing, Finsupp.single_eq_same, Finset.sum_congr rfl fun d _ => owed_cw d c s,
    Finset.sum_ite_eq' Finset.univ (left c) fun _ => N, if_pos (Finset.mem_univ _)]
theorem launch_ccw (c : Dev nD) (s : Fin 15) :
    tallyOn (dcell c 3 s) (launchCredit (Pipeline.owing O₀) 0 (dcell c 3 s)) = (tallyAt (dcell c 3 s) () N : CellTallies nD τ sig Unit) := by
  unfold tallyAt; refine congrArg _ (Finsupp.ext fun u => ?_); cases u
  rw [Pipeline.launchCredit_owing, Finsupp.single_eq_same, Finset.sum_congr rfl fun d _ => owed_ccw d c s,
    Finset.sum_ite_eq' Finset.univ (right c) fun _ => N, if_pos (Finset.mem_univ _)]

theorem creds (c : Dev nD) : (Pipeline.launchCred O₀ c : sProp 𝕄) ⊢ iprop(cred (tallyAt (barCell c) () 2) ∗ recvCreds c) := by
  have h1 : (Pipeline.launchCred O₀ c : sProp 𝕄)
      ⊢ bigSep Finset.univ fun k : CK => cred (tallyOn (kcell (c, k)) (launchCredit (Pipeline.owing O₀) 0 (kcell (c, k)))) := by
    unfold Pipeline.launchCred
    have hsub := bigSep_subset (s := Finset.univ) (t := Finset.univ.map ⟨csem, csem_injective⟩) (Finset.subset_univ _)
      (Φ := fun sm : SemLoc sig => (cred (tallyOn ((c : Thread nD τ), sm) (launchCredit (Pipeline.owing O₀) 0 ((c : Thread nD τ), sm))) : sProp 𝕄))
    rw [bigSep_map] at hsub
    exact hsub
  refine h1.trans ?_
  rw [cells_by_hop (F := F) c fun g => cred (tallyOn g (launchCredit (Pipeline.owing O₀) 0 g))]
  simp only [launch_bar, launch_cw, launch_ccw]
  unfold recvCreds
  rw [bigSep_sep']
  iintro ⟨H1, -, H2, -, H3⟩
  isplitl [H1]; · iexact H1
  isplitl [H2] <;> iassumption

/-! ## The theorem's side conditions -/

/-- The one array no window carries, as launched. -/
def unread (c : Dev nD) : sProp 𝕄 := ((c : Thread nD τ).loc main_arg1) ↦{fullShare} (m ((c : Thread nD τ).loc main_arg1))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ unread m c) := by
  rw [Pipeline.unscopedRestP_none]
  iintro ⟨Hr, Hlev, Hcr, -, HG⟩
  ihave Hc := (creds (F := F) c) $$ Hcr
  icases Hc with ⟨H1, HN⟩
  ihave Hr' := (Entails.of_eq (unscopedRest0_eq (Ix := Unit) (Name := ℕ) (U := UU) (Lvl := ℕ) c (fun b => m ((c : Thread nD τ).loc b)))) $$ Hr
  imodintro
  unfold start G' unread
  isplitl [HG H1 HN Hlev]
  · isplitl [HG]; · iexact HG
    isplitl [H1]; · iexact H1
    isplitl [HN]; · iexact HN
    iexact Hlev
  · iexact Hr'

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show (Pipeline.scopedRest cfg0.spec c : sProp 𝕄) = _ from scopedRest0_eq c]
  unfold Φ₀ gAll
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, show (Pipeline.scopedRest cfg0.spec c : sProp 𝕄) = _ from scopedRest0_eq c, ownSems0_eq, unscopedSems0_eq]
  unfold Φ₁ gAll
  iintro ⟨Hr, Hz, HzB⟩
  isplitl [HzB]; · iexact HzB
  isplitl [Hz]; · iexact Hz
  iexists (full m); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

theorem finalA_x (c : Dev nD) : finalA m ρ c (0 : Fin 4) = m ((c : Thread nD τ).loc main_arg0) := (dats (F := F) m ρ 0 c).arrAt_in (0 : Fin 4) rfl _
theorem finalA_ri (c : Dev nD) : finalA m ρ c (1 : Fin 4) = m ((c : Thread nD τ).loc main_arg2) := (dats (F := F) m ρ 0 c).arrAt_in (1 : Fin 4) rfl _
theorem finalA_w (c : Dev nD) : finalA m ρ c (2 : Fin 4) = m ((c : Thread nD τ).loc main_arg3) := (dats (F := F) m ρ 0 c).arrAt_in (2 : Fin 4) rfl _

/-- Every window's array at its computed contents, and the array no window carries unchanged. -/
def Ends (s : MemSt nD τ sig (Elt F)) : Prop :=
  ∀ c : Dev nD, (∀ w : Fin cfg0.W, s.mem ((cfg0.win w).arr.view.loc (c : Thread nD τ)) = finalA m ρ c w)
    ∧ s.mem ((c : Thread nD τ).loc main_arg1) = m ((c : Thread nD τ).loc main_arg1)

set_option maxRecDepth 40000 in
/-- On the mesh of sixteen devices, for any float values, from any memory with zero counters: every weakly fair execution
    of @main terminates, with the result array at the computed contents, the arguments unchanged, and every counter at
    zero. -/
theorem run_main : θ_run defs (onTc (τ := τ) (main (F := F))) (s₀ m ρ) (fun r => Ends m ρ r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := unread m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      unfold unread
      iintro ⟨Hu, Hr, HSI⟩
      icombine HSI Hr gives %h
      imod (Pipeline.unscopedSems0_read (X := unscopedSems0 c) (c := c) fupd_intro s') $$ [Hu HSI] with ⟨%hs, HSI⟩
      · isplitl [Hu] <;> iassumption
      imodintro
      isplitr
      · ipureintro; exact ⟨hs, Buf.eq_of_forall_mem_univ h⟩
      iexact HSI)
    (hQ := fun _ h hs => ⟨fun c => ⟨fun w => (h c).1 w, (h c).2.2.2⟩, sem_eq_zero hs fun c => (h c).2.2.1⟩)

end Cert.Proof.Ring

end
-- ==== Proof.Frames.lean ====
/-
The frames: each program runs, leaves its arguments as they were and every counter at zero. The run of the kernel is
written once for any float values, so the kernel as compiled and its idealization take it at their own.
-/
module

public import proofs.«01_k».proof.Defs
public import proofs.«01_k».proof.Proof.Start
public import proofs.«01_k».proof.Proof.Gen.Kernel
public import proofs.«01_k».proof.Proof.Gen.ReferenceIdeal.Run

@[expose] public section

noncomputable section

namespace Cert.Proof

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- What both kernels' frames say of a final state. -/
def Kept (s : MemSt nD τ sig (Elt F)) : Prop :=
  ∀ c : Dev nD, s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)

theorem kept_of_ends {s : MemSt nD τ sig (Elt F)} (h : Ring.Ends m ρ s) : Kept m s := fun c =>
  ⟨((h c).1 (0 : Fin 4)).trans (Ring.finalA_x m ρ c), (h c).2, ((h c).1 (1 : Fin 4)).trans (Ring.finalA_ri m ρ c),
    ((h c).1 (2 : Fin 4)).trans (Ring.finalA_w m ρ c)⟩

theorem run_kept : θ_run defs (onTc (τ := τ) (main (F := F))) ⟨m, fun _ => 0, ρ⟩ (fun r => Kept m r.2 ∧ r.2.sem = fun _ => 0) :=
  (θ_run defs _ _).mono (fun _ h => ⟨kept_of_ends m ρ h.1, h.2⟩) (Ring.run_main m ρ)

theorem frame_kernelIdeal : Cert.quiescent_KernelIdeal := fun m ρ _ => run_kept (F := Ideal) m ρ

/-! The kernel as compiled is the same text: -/

theorem body_same : Cert.Kernel.cc0_body (F := Bits) = Cert.KernelIdeal.cc0_body (F := Bits) := rfl

theorem defs₀_same : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, ⟨t, s⟩ =>
    exact congrFun (congrFun (congrFun (congrFun (congrFun (congrFun (congrFun (congrFun (congrFun (congrFun (congrFun (congrFun
      (congrFun (congrFun body_same _) _) _) _) _) _) _) _) _) _) _) _) _) _

theorem defs_same : Cert.Kernel.defs (F := Bits) = Cert.KernelIdeal.defs (F := Bits) :=
  congrArg (Pipeline.defs (Cert.Kernel.pcfgs (F := Bits))) defs₀_same

theorem frame_kernel : Cert.quiescent_Kernel := fun m ρ _ => by
  rw [defs_same]
  exact (θ_run Cert.KernelIdeal.defs _ _).mono (fun _ h => h) (run_kept (F := Bits) m ρ)

/-! The reference runs on one device. -/

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Rank.lean ====
/-
The slots, block by block of 128 tokens.

The kernel counts the tokens routed to each expert by multiplying a triangle of ones with each block of the one-hot
matrix, adds the counts of the blocks before — held down to thirty-two after every block — and reads the count at the
token's own expert. Here the sixteen blocks are one definition over the block's number.
-/
module

public import proofs.«01_k».proof.Proof.Body
public import Idealize.ShloMosaic.Lib.Pointwise

@[expose] public section

set_option maxRecDepth 16384

noncomputable section

namespace Cert.Proof.Ring

open Cert.KernelIdeal Cert.KernelIdeal.Gen
open Idealize.ShloMosaic

variable {F : FTy → Type} [FloatOps F]

theorem slices_block : ∀ b : Fin 16, S2048x128.Slices ![128 * b.val, 0] S128x128 := by decide

/-- The running counts within block `b`. -/
def within (tri : FVec F S128x128 .bf16) (oh : FVec F S2048x128 .bf16) (b : Fin 16) : FVec F S128x128 .f32 :=
  matmul dot_S128x128_S128x128_S128x128_1_0_0_1_n_n none tri
    (extractStridedSlice S128x128 ![128 * b.val, 0] oh (slices_block b)) (constant S128x128 .f32 0x00000000#32)

/-- The counts of the whole block. -/
def total (tri : FVec F S128x128 .bf16) (oh : FVec F S2048x128 .bf16) (b : Fin 16) : FVec F S1x128 .f32 :=
  extractStridedSlice S1x128 ![127, 0] (within tri oh b) slices_S128x128_o127_0_S1x128

/-- The counts of the first `n` blocks, held down to thirty-two. -/
def offset (tri : FVec F S128x128 .bf16) (oh : FVec F S2048x128 .bf16) : ℕ → FVec F S1x128 .f32
  | 0 => broadcast S1x128 (Scalar.ofBits .f32 0x00000000#32)
  | n + 1 => minimumf (addf (offset tri oh n) (total tri oh (Fin.ofNat 16 n)))
      (broadcast S1x128 (Scalar.ofBits .f32 0x42000000#32))

/-- The counts of block `b`'s tokens at their own experts. -/
def atExpert (ohb : IVec S2048x128 1) (w : FVec F S128x128 .f32) (off : FVec F S1x128 .f32) (b : Fin 16) :
    FVec F S128x1 .f32 :=
  shapeCast S128x1 (multiReduction .add [1] S128
    (select (extractStridedSlice S128x128 ![128 * b.val, 0] ohb (slices_block b))
      (addf w (broadcastTo S128x128 off broadcasts_S1x128_S128x128))
      (broadcast S128x128 (Scalar.ofBits .f32 0x00000000#32)))
    0x00000000#32 reduces_S128x128_S128 (.inl rfl) rfl) shapeCasts_S128_S128x1

def blockRank (ohb : IVec S2048x128 1) (oh : FVec F S2048x128 .bf16) (b : Fin 16) : FVec F S128x1 .f32 :=
  atExpert ohb (within k0_pay6 oh b) (offset k0_pay6 oh b.val) b

/-- The rank of each token among those of its expert. -/
def rankOf (F : FTy → Type) [FloatOps F] (v103 : IVec S2048x1 32) : FVec F S2048x1 .f32 :=
  let ohb := k0_pay4 (F := F) v103
  let oh := k0_pay5 (F := F) v103
  let r := blockRank (F := F) ohb oh
  subf (concatenate S2048x1 0 [⟨S128x1, r 0⟩, ⟨S128x1, r 1⟩, ⟨S128x1, r 2⟩, ⟨S128x1, r 3⟩, ⟨S128x1, r 4⟩,
    ⟨S128x1, r 5⟩, ⟨S128x1, r 6⟩, ⟨S128x1, r 7⟩, ⟨S128x1, r 8⟩, ⟨S128x1, r 9⟩, ⟨S128x1, r 10⟩, ⟨S128x1, r 11⟩,
    ⟨S128x1, r 12⟩, ⟨S128x1, r 13⟩, ⟨S128x1, r 14⟩, ⟨S128x1, r 15⟩]
    concatenates_S128x1_S128x1_S128x1_S128x1_S128x1_S128x1_S128x1_S128x1_S128x1_S128x1_S128x1_S128x1_S128x1_S128x1_S128x1_S128x1_S2048x1_d0)
    (broadcast S2048x1 (Scalar.ofBits .f32 0x3F800000#32))

/-- The first slot of each token's expert, and the slot with the rank added. -/
def slotsFrom (F : FTy → Type) [FloatOps F] (v103 : IVec S2048x1 32) (rank : FVec F S2048x1 .f32) : IVec S2048x1 32 :=
  let v104 := k0_pay3 (F := F) v103
  k0_pay83 rank (cmpf .olt rank (broadcast S2048x1 (Scalar.ofBits .f32 0x41400000#32)))
    (k0_pay79 (k0_pay76 v104) (k0_pay78 (k0_pay76 v104) k0_pay77)) (k0_pay80 v104) (k0_pay81 v104) (k0_pay82 v104)

set_option maxHeartbeats 4000000 in
theorem gslOf_eq (v : IVec S2048x1 32) : gslOf F v = slotsFrom F v (rankOf F v) := rfl

end Cert.Proof.Ring

end
-- ==== Proof.Count.lean ====
/-
The slots as numbers: a token kept with rank `r` has slot `128 * position + 16 * (expert mod 8) + r`.

The counts are `Nat.count`s over the tokens before a token. Holding a block's count down to thirty-two changes no rank
below twelve and brings no rank below it.
-/
module

public import proofs.«01_k».proof.Proof.Rank
public import Idealize.ShloMosaic.Lib.Pipeline.Value
public import Idealize.ShloMosaic.Lib.WordCmp

@[expose] public section

set_option maxRecDepth 16384

noncomputable section

namespace Cert.Proof.Ring

open Cert.KernelIdeal Cert.KernelIdeal.Gen
open Idealize.ShloMosaic

/-! ## Counting -/

/-- The tokens' experts, as numbers. -/
def expert (v : IVec S2048x1 32) (k : ℕ) : ℕ := if h : k < 2048 then (v (ix2 ⟨k, h⟩ 0)).toNat else 0

theorem expert_val (v : IVec S2048x1 32) (t : Fin 2048) : expert v t.val = (v (ix2 t 0)).toNat := dif_pos t.isLt

/-- How many tokens before token `t` have its expert. -/
def before (v : IVec S2048x1 32) (t : ℕ) : ℕ := Nat.count (fun k => expert v k = expert v t) t

/-- The count the kernel arrives at: the blocks before, held down, and the tokens before within the block. -/
def heldCount (v : IVec S2048x1 32) (t : ℕ) : ℕ :=
  min (Nat.count (fun k => expert v k = expert v t) (128 * (t / 128))) 32
    + Nat.count (fun k => expert v (128 * (t / 128) + k) = expert v t) (t % 128)

theorem before_split (v : IVec S2048x1 32) (t : ℕ) : before v t
    = Nat.count (fun k => expert v k = expert v t) (128 * (t / 128))
      + Nat.count (fun k => expert v (128 * (t / 128) + k) = expert v t) (t % 128) := by
  have h := Nat.count_add (fun k => expert v k = expert v t) (128 * (t / 128)) (t % 128)
  rw [Nat.div_add_mod] at h
  exact h

theorem heldCount_lt (v : IVec S2048x1 32) (t : ℕ) : heldCount v t < 12 ↔ before v t < 12 := by
  rw [before_split, heldCount]; omega
theorem heldCount_eq (v : IVec S2048x1 32) (t : ℕ) (h : before v t < 12) : heldCount v t = before v t := by
  rw [before_split] at h ⊢; rw [heldCount]; omega
theorem heldCount_le (v : IVec S2048x1 32) (t : ℕ) : heldCount v t ≤ 160 := by
  have := Nat.count_le (p := fun k => expert v (128 * (t / 128) + k) = expert v t) (n := t % 128)
  rw [heldCount]; omega

theorem before_inj (v : IVec S2048x1 32) (t u : ℕ) (he : expert v t = expert v u) (hb : before v t = before v u) : t = u := by
  unfold before at hb
  rw [← he] at hb
  exact Nat.count_injective (p := fun k => expert v k = expert v t) rfl he.symm hb

theorem sum_count (p : ℕ → Prop) [DecidablePred p] (n i : ℕ) (h : i < n) :
    (∑ x : Fin n, if x.val ≤ i ∧ p x.val then 1 else 0) = Nat.count p (i + 1) := by
  rw [Fin.sum_univ_eq_sum_range (fun k => if k ≤ i ∧ p k then 1 else 0) n, Finset.sum_boole, Nat.count_eq_card_filter_range]
  refine congrArg Finset.card ?_
  ext k
  simp only [Finset.mem_filter, Finset.mem_range]
  constructor
  · rintro ⟨_, a, b⟩; exact ⟨by omega, b⟩
  · rintro ⟨a, b⟩; exact ⟨by omega, by omega, b⟩

/-! ## The readings -/

theorem min_cast (a b : ℕ) : min ((a : ℕ) : EReal) ((b : ℕ) : EReal) = ((min a b : ℕ) : EReal) :=
  (Monotone.map_min (f := fun n : ℕ => (n : EReal)) (fun x y h => EReal.natCast_le_iff.mpr h)).symm

theorem sitofp_bit (b : Bool) : FloatOps.sitofp (F := Ideal) FTy.f32 (BitVec.setWidth 32 (BitVec.ofBool b)) = (((if b then 1 else 0 : ℕ)) : EReal) := by
  show ((((BitVec.setWidth 32 (BitVec.ofBool b)).toInt : ℤ) : ℝ) : EReal) = _
  cases b <;> simp

theorem select_bit {α : Type} (p : Prop) [Decidable p] (a b : α) : Scalar.select (BitVec.ofBool (decide p)) a b = if p then a else b := by
  by_cases h : p <;> simp [Scalar.select, h]

theorem hot_apply (v : IVec S2048x1 32) (t : Fin 2048) (e : Fin 128) :
    k0_pay5 (F := Ideal) v (ix2 t e) = ((if expert v t.val = e.val then 1 else 0 : ℕ) : EReal) := by
  pointwise [k0_pay5, k0_pay4, k0_pay3]
  rw [WordCmp.cmpi_eq_eq, sitofp_bit]
  have : (v (ix2 t 0) = BitVec.ofNat 32 e.val) ↔ expert v t.val = e.val := by
    rw [expert_val, ← BitVec.toNat_inj, BitVec.toNat_ofNat, Nat.mod_eq_of_lt (by omega)]
  simp only [this, decide_eq_true_eq]

theorem tri_apply (i k : Fin 128) :
    k0_pay6 (F := Ideal) (ix2 i k) = ((if k.val ≤ i.val then 1 else 0 : ℕ) : EReal) := by
  pointwise [k0_pay6]
  rw [WordCmp.cmpi_sge_eq, sitofp_bit]
  have : ((BitVec.ofNat 32 k.val).toInt ≤ (BitVec.ofNat 32 i.val).toInt) ↔ k.val ≤ i.val := by
    rw [BitVec.toInt_eq_toNat_of_lt (by rw [BitVec.toNat_ofNat]; omega), BitVec.toInt_eq_toNat_of_lt (by rw [BitVec.toNat_ofNat]; omega),
      BitVec.toNat_ofNat, BitVec.toNat_ofNat]
    omega
  simp only [this, decide_eq_true_eq]

theorem within_apply (v : IVec S2048x1 32) (b : Fin 16) (i e : Fin 128) :
    within (F := Ideal) k0_pay6 (k0_pay5 v) b (ix2 i e)
      = ((Nat.count (fun k => expert v (128 * b.val + k) = e.val) (i.val + 1) : ℕ) : EReal) := by
  have h : within (F := Ideal) k0_pay6 (k0_pay5 v) b (ix2 i e)
      = ∑ x : Fin 128, k0_pay6 (F := Ideal) (ix2 i x) * k0_pay5 (F := Ideal) v (ix2 ⟨128 * b.val + x.val, by omega⟩ e) := by
    pointwise [within]
  rw [h, ← sum_count _ 128 i.val i.isLt, Nat.cast_sum]
  refine Finset.sum_congr rfl fun x _ => ?_
  refine (congrArg₂ (fun p q : EReal => p * q) (tri_apply i x) (hot_apply v _ e)).trans ?_
  refine (EReal.natCast_mul _ _).symm.trans (congrArg _ ?_)
  rw [ite_and, ite_mul, one_mul, zero_mul]

theorem total_apply (v : IVec S2048x1 32) (b : Fin 16) (e : Fin 128) :
    total (F := Ideal) k0_pay6 (k0_pay5 v) b (ix2 0 e)
      = ((Nat.count (fun k => expert v (128 * b.val + k) = e.val) 128 : ℕ) : EReal) := by
  have h : total (F := Ideal) k0_pay6 (k0_pay5 v) b (ix2 0 e) = within (F := Ideal) k0_pay6 (k0_pay5 v) b (ix2 127 e) := by
    pointwise [total]
  exact h.trans (within_apply v b 127 e)

theorem ofBits_thirtyTwo : Ideal.ofBits .f32 0x42000000#32 = ((32 : ℕ) : EReal) := by
  rw [← EReal.coe_natCast]
  simp [Ideal.ofBits, Ideal.ieee, -EReal.coe_mul]; norm_num
theorem ofBits_twelve : Ideal.ofBits .f32 0x41400000#32 = ((12 : ℕ) : EReal) := by
  rw [← EReal.coe_natCast]
  simp [Ideal.ofBits, Ideal.ieee, -EReal.coe_mul]; norm_num

theorem offset_apply (v : IVec S2048x1 32) (n : ℕ) (hn : n ≤ 16) (e : Fin 128) :
    offset (F := Ideal) k0_pay6 (k0_pay5 v) n (ix2 0 e)
      = ((min (Nat.count (fun k => expert v k = e.val) (128 * n)) 32 : ℕ) : EReal) := by
  induction n with
  | zero =>
    have h : offset (F := Ideal) k0_pay6 (k0_pay5 v) 0 (ix2 0 e) = 0 := by pointwise [offset]
    rw [h]; simp
  | succ n ih =>
    have h : offset (F := Ideal) k0_pay6 (k0_pay5 v) (n + 1) (ix2 0 e)
        = min (offset (F := Ideal) k0_pay6 (k0_pay5 v) n (ix2 0 e) + total (F := Ideal) k0_pay6 (k0_pay5 v) (Fin.ofNat 16 n) (ix2 0 e))
          (Ideal.ofBits .f32 0x42000000#32) := by pointwise [offset]
    rw [h, ih (by omega), total_apply, ofBits_thirtyTwo, ← Nat.cast_add, min_cast,
      show 128 * (n + 1) = 128 * n + 128 by ring, Nat.count_add,
      show (Fin.ofNat 16 n).val = n from Nat.mod_eq_of_lt (by omega)]
    congr 1
    omega

theorem blockRank_apply (v : IVec S2048x1 32) (hv : ∀ t : Fin 2048, expert v t.val < 128) (b : Fin 16) (i : Fin 128) :
    blockRank (F := Ideal) (k0_pay4 (F := Ideal) v) (k0_pay5 v) b (ix2 i 0)
      = ((heldCount v (128 * b.val + i.val) + 1 : ℕ) : EReal) := by
  have h : blockRank (F := Ideal) (k0_pay4 (F := Ideal) v) (k0_pay5 v) b (ix2 i 0)
      = ∑ x : Fin 128, Scalar.select (k0_pay4 (F := Ideal) v (ix2 ⟨128 * b.val + i.val, by omega⟩ x))
          (within (F := Ideal) k0_pay6 (k0_pay5 v) b (ix2 i x) + offset (F := Ideal) k0_pay6 (k0_pay5 v) b.val (ix2 0 x)) 0 := by
    pointwise [blockRank, atExpert]
  have ht : 128 * b.val + i.val < 2048 := by omega
  have hb : ∀ x : Fin 128, k0_pay4 (F := Ideal) v (ix2 ⟨128 * b.val + i.val, ht⟩ x)
      = BitVec.ofBool (decide (x = ⟨expert v (128 * b.val + i.val), hv ⟨_, ht⟩⟩)) := by
    intro x
    pointwise [k0_pay4, k0_pay3]
    rw [WordCmp.cmpi_eq_eq]
    have : (v (ix2 ⟨128 * b.val + i.val, ht⟩ 0) = BitVec.ofNat 32 x.val) ↔ x = ⟨expert v (128 * b.val + i.val), hv ⟨_, ht⟩⟩ := by
      rw [Fin.ext_iff]
      show _ ↔ x.val = expert v (⟨128 * b.val + i.val, ht⟩ : Fin 2048).val
      rw [expert_val v ⟨_, ht⟩, ← BitVec.toNat_inj, BitVec.toNat_ofNat, Nat.mod_eq_of_lt (by omega)]
      exact eq_comm
    simp only [this]
  rw [h, Finset.sum_congr rfl fun x _ => by
    rw [hb, select_bit]]
  rw [Finset.sum_ite_eq' _ _ _, if_pos (Finset.mem_univ _), within_apply, offset_apply v _ (by omega), ← Nat.cast_add, Nat.count_succ,
    if_pos rfl]
  congr 1
  unfold heldCount
  rw [show (128 * b.val + i.val) / 128 = b.val by omega, show (128 * b.val + i.val) % 128 = i.val by omega]
  ring

theorem rank_apply (v : IVec S2048x1 32) (hv : ∀ t : Fin 2048, expert v t.val < 128) (t : Fin 2048) :
    rankOf Ideal v (ix2 t 0) = ((heldCount v t.val : ℕ) : EReal) := by
  have h : rankOf Ideal v (ix2 t 0) = blockRank (F := Ideal) (k0_pay4 (F := Ideal) v) (k0_pay5 v) ⟨t.val / 128, by omega⟩
      (ix2 ⟨t.val % 128, by omega⟩ 0) - Ideal.ofBits .f32 0x3F800000#32 := by
    refine congrArg (fun y : EReal => y - Ideal.ofBits .f32 0x3F800000#32) ?_
    refine concatenate_ofFn_apply (t := S2048x1) (s₁ := S128x1) 0 (N := 16) (blockRank (F := Ideal) (k0_pay4 (F := Ideal) v) (k0_pay5 v))
      _ rfl 128 rfl (ix2 t 0) ⟨t.val / 128, by omega⟩ rfl (ix2 ⟨t.val % 128, by omega⟩ 0) rfl ?_
    intro a ha
    fin_cases a
    · exact absurd rfl ha
    · rfl
  rw [h, blockRank_apply v hv, Ideal.ofBits_one_f32, show 128 * (t.val / 128) + t.val % 128 = t.val by omega, Nat.cast_add, Nat.cast_one]
  exact EReal.add_sub_cancel_right (b := 1)

/-! ## The slots -/

/-- The first slot of expert `w`. -/
def slotBase (w : BitVec 32) : BitVec 32 :=
  let u : IVec S2048x1 32 := fun _ => w
  let x : IVec S2048x1 32 := fun _ => k0_pay76 u (ix2 0 0)
  let y : IVec S2048x1 32 := fun _ => k0_pay78 x k0_pay77 (ix2 0 0)
  IntOp.addi (k0_pay79 x y (ix2 0 0))
    (IntOp.muli (Scalar.select (k0_pay81 u (ix2 0 0)) (k0_pay82 u (ix2 0 0)) (k0_pay80 u (ix2 0 0))) 16#32)

theorem pay76_at (v : IVec S2048x1 32) (t : Fin 2048) : k0_pay76 v (ix2 t 0) = k0_pay76 (fun _ => v (ix2 t 0)) (ix2 0 0) := by
  unfold k0_pay76; rfl
theorem pay78_at (v w : IVec S2048x1 32) (t : Fin 2048) :
    k0_pay78 v w (ix2 t 0) = k0_pay78 (fun _ => v (ix2 t 0)) (fun _ => w (ix2 t 0)) (ix2 0 0) := by
  unfold k0_pay78; rfl
theorem pay79_at (v w : IVec S2048x1 32) (t : Fin 2048) :
    k0_pay79 v w (ix2 t 0) = k0_pay79 (fun _ => v (ix2 t 0)) (fun _ => w (ix2 t 0)) (ix2 0 0) := by
  unfold k0_pay79; rfl
theorem pay80_at (v : IVec S2048x1 32) (t : Fin 2048) : k0_pay80 v (ix2 t 0) = k0_pay80 (fun _ => v (ix2 t 0)) (ix2 0 0) := by
  unfold k0_pay80; rfl
theorem pay81_at (v : IVec S2048x1 32) (t : Fin 2048) : k0_pay81 v (ix2 t 0) = k0_pay81 (fun _ => v (ix2 t 0)) (ix2 0 0) := by
  unfold k0_pay81 k0_pay80; rfl
theorem pay82_at (v : IVec S2048x1 32) (t : Fin 2048) : k0_pay82 v (ix2 t 0) = k0_pay82 (fun _ => v (ix2 t 0)) (ix2 0 0) := by
  unfold k0_pay82 k0_pay80; rfl
theorem pay83_at (r : FVec Ideal S2048x1 .f32) (k : IVec S2048x1 1) (a b : IVec S2048x1 32) (d : IVec S2048x1 1) (e : IVec S2048x1 32) (j : S2048x1.Idx) :
    k0_pay83 r k a b d e j = Scalar.select (k j) (IntOp.addi (IntOp.addi (a j) (IntOp.muli (Scalar.select (d j) (e j) (b j)) 16#32))
      (Ideal.fptosi 32 (r j))) 4294967295#32 := rfl

theorem slots_apply (v : IVec S2048x1 32) (r : FVec Ideal S2048x1 .f32) (t : Fin 2048) :
    slotsFrom Ideal v r (ix2 t 0) = Scalar.select (Ideal.cmp .olt (r (ix2 t 0)) (Ideal.ofBits .f32 0x41400000#32))
      (IntOp.addi (slotBase (v (ix2 t 0))) (Ideal.fptosi 32 (r (ix2 t 0)))) 4294967295#32 := by
  have e : k0_pay3 (F := Ideal) v = v := shapeCast_self v _
  unfold slotsFrom slotBase
  rw [e, pay83_at]
  dsimp only
  rw [pay79_at, pay78_at, pay76_at, pay80_at, pay81_at, pay82_at]
  rfl

/-- A device's position around the ring. -/
def posN : Fin 16 → ℕ := ![0, 7, 8, 15, 1, 6, 9, 14, 2, 5, 10, 13, 3, 4, 11, 12]

theorem slotBase_eq : ∀ k : Fin 128, slotBase (BitVec.ofNat 32 k.val)
    = BitVec.ofNat 32 (128 * posN ⟨k.val / 8, by omega⟩ + 16 * (k.val % 8)) := by
  decide +kernel

theorem fptosi_nat (n : ℕ) (h : n < 2 ^ 31) : Ideal.fptosi 32 ((n : ℕ) : EReal) = BitVec.ofNat 32 n := by
  rw [← EReal.coe_natCast]
  show BitVec.ofInt 32 (max _ (min _ (if (0 : ℝ) ≤ ((n : ℕ) : ℝ) then ⌊((n : ℕ) : ℝ)⌋ else ⌈((n : ℕ) : ℝ)⌉))) = _
  rw [if_pos (Nat.cast_nonneg n), Int.floor_natCast]
  have : max (-((2 ^ (32 - 1) : ℕ) : ℤ)) (min (((2 ^ (32 - 1) : ℕ) : ℤ) - 1) (n : ℤ)) = n := by
    norm_num; omega
  rw [this, BitVec.ofInt_natCast]

/-- The slot of a token that is kept. -/
def slotN (v : IVec S2048x1 32) (t : ℕ) : ℕ :=
  128 * posN (Fin.ofNat 16 (expert v t / 8)) + 16 * (expert v t % 8) + before v t

theorem gsl_apply (v : IVec S2048x1 32) (hv : ∀ t : Fin 2048, expert v t.val < 128) (t : Fin 2048) :
    gslOf Ideal v (ix2 t 0) = if before v t.val < 12 then BitVec.ofNat 32 (slotN v t.val) else 4294967295#32 := by
  rw [gslOf_eq, slots_apply, rank_apply v hv, ofBits_twelve]
  have hc : Ideal.cmp .olt ((heldCount v t.val : ℕ) : EReal) ((12 : ℕ) : EReal) = BitVec.ofBool (decide (before v t.val < 12)) := by
    show BitVec.ofBool (decide (((heldCount v t.val : ℕ) : EReal) < ((12 : ℕ) : EReal))) = _
    simp only [EReal.natCast_lt_iff, heldCount_lt]
  rw [hc, select_bit]
  by_cases h : before v t.val < 12
  · rw [if_pos h, if_pos h, heldCount_eq v _ h, fptosi_nat _ (by omega)]
    have e : v (ix2 t 0) = BitVec.ofNat 32 (expert v t.val) := by
      rw [expert_val, BitVec.ofNat_toNat, BitVec.setWidth_eq]
    rw [e, slotBase_eq ⟨expert v t.val, hv t⟩, IntOp.addi, ← BitVec.ofNat_add]
    unfold slotN
    congr 4
    exact congrArg posN (Fin.ext (Nat.mod_eq_of_lt (by have := hv t; omega)).symm)
  · rw [if_neg h, if_neg h]

end Cert.Proof.Ring

end
-- ==== Proof.Blocks.lean ====
/-
What the blocks of products add up to.

A token kept at slot `n` has one nonzero entry among all the one-hot blocks' columns, at block `n / 128`, column
`n % 128`. So the gathered rows are the tokens' own rows, and the sixteen blocks' products add up to the row of the
gather buffer at the token's slot — or to zero for a token that is not kept.
-/
module

public import proofs.«01_k».proof.Proof.Count
public import proofs.«01_k».proof.Proof.Ring

@[expose] public section

set_option maxRecDepth 16384

noncomputable section

namespace Cert.Proof.Ring

open Cert.KernelIdeal Cert.KernelIdeal.Gen
open Idealize.ShloMosaic
open Idealize.ShloMosaic.TcCoe
open Idealize.SL.Sem

theorem pair_ix2 {a b : ℕ} (r : Fin a) (c : Fin b) : (Shape.pair (d := ![a, b]) r c : (⟨2, ![a, b]⟩ : Shape).Idx) = ix2 r c := by
  refine (Shape.pair_eta (d := ![a, b]) (ix2 r c)).symm.trans ?_ |>.symm
  rfl

/-! ## Slots -/

theorem posN_eq (d : Fin 16) : posN d = (pos d).val := by revert d; decide
theorem posN_lt (d : Fin 16) : posN d < 16 := by rw [posN_eq]; exact (pos d).isLt
theorem posN_inj {d e : Fin 16} (h : posN d = posN e) : d = e := by revert d e; decide

variable (v : IVec S2048x1 32)

/-- Token `t` is kept at slot `n`. -/
def At (t n : ℕ) : Prop := before v t < 12 ∧ slotN v t = n
instance (t n : ℕ) : Decidable (At v t n) := inferInstanceAs (Decidable (_ ∧ _))

theorem slotN_lt (t : ℕ) (h : before v t < 12) : slotN v t < 2048 := by
  have := posN_lt (Fin.ofNat 16 (expert v t / 8))
  unfold slotN; omega

theorem slotN_block (t : ℕ) (h : before v t < 12) : slotN v t / 128 = posN (Fin.ofNat 16 (expert v t / 8)) := by
  unfold slotN; omega
theorem slotN_expert (t : ℕ) (h : before v t < 12) : slotN v t % 128 / 16 = expert v t % 8 := by
  unfold slotN; omega
theorem slotN_rank (t : ℕ) (h : before v t < 12) : slotN v t % 16 = before v t := by
  unfold slotN; omega

theorem At_inj (hv : ∀ t : Fin 2048, expert v t.val < 128) (t u : Fin 2048) (n : ℕ) (ht : At v t.val n) (hu : At v u.val n) : t = u := by
  obtain ⟨ht, et⟩ := ht
  obtain ⟨hu, eu⟩ := hu
  have h1 := slotN_block v t.val ht
  have h2 := slotN_block v u.val hu
  have h3 := slotN_expert v t.val ht
  have h4 := slotN_expert v u.val hu
  have h5 := slotN_rank v t.val ht
  have h6 := slotN_rank v u.val hu
  rw [et] at h1 h3 h5
  rw [eu] at h2 h4 h6
  have hd := congrArg Fin.val (posN_inj (h1.symm.trans h2))
  have a := hv t
  have b := hv u
  change expert v t.val / 8 % 16 = expert v u.val / 8 % 16 at hd
  exact Fin.ext (before_inj v t.val u.val (by omega) (by omega))

/-! ## The one-hot blocks -/

theorem oneHot_apply (hv : ∀ t : Fin 2048, expert v t.val < 128) (b : ℕ) (hb : b < 16) (t : Fin 2048) (s : Fin 128) :
    oneHot (F := Ideal) (gslOf Ideal v) (BitVec.ofNat 32 b) (ix2 t s) = if At v t.val (128 * b + s.val) then (1 : EReal) else 0 := by
  have h : oneHot (F := Ideal) (gslOf Ideal v) (BitVec.ofNat 32 b) (ix2 t s)
      = FloatOps.sitofp (F := Ideal) FTy.f32 (BitVec.setWidth 32 (IntOp.cmpi .eq (gslOf Ideal v (ix2 t 0))
          (IntOp.addi (BitVec.ofNat 32 s.val) (Scalar.muli (BitVec.ofNat 32 b) 128#32)))) := by
    pointwise [oneHot]
  rw [h, WordCmp.cmpi_eq_eq, sitofp_bit, gsl_apply v hv]
  have hw : IntOp.addi (BitVec.ofNat 32 s.val) (Scalar.muli (BitVec.ofNat 32 b) 128#32) = BitVec.ofNat 32 (128 * b + s.val) := by
    show BitVec.ofNat 32 s.val + BitVec.ofNat 32 b * BitVec.ofNat 32 128 = _
    rw [← BitVec.ofNat_mul, ← BitVec.ofNat_add]; congr 1; omega
  rw [hw]
  have key : ((if before v t.val < 12 then BitVec.ofNat 32 (slotN v t.val) else 4294967295#32) = BitVec.ofNat 32 (128 * b + s.val))
      ↔ At v t.val (128 * b + s.val) := by
    unfold At
    by_cases hk : before v t.val < 12
    · have := slotN_lt v t.val hk
      rw [if_pos hk, ← BitVec.toNat_inj, BitVec.toNat_ofNat, BitVec.toNat_ofNat, Nat.mod_eq_of_lt (by omega), Nat.mod_eq_of_lt (by omega)]
      simp [hk]
    · rw [if_neg hk, ← BitVec.toNat_inj, BitVec.toNat_ofNat, BitVec.toNat_ofNat, Nat.mod_eq_of_lt (by omega), Nat.mod_eq_of_lt (by omega)]
      simp only [hk, false_and, iff_false]
      omega
  by_cases hk : At v t.val (128 * b + s.val)
  · rw [if_pos hk, decide_eq_true (key.mpr hk)]; exact Nat.cast_one
  · rw [if_neg hk, decide_eq_false (fun h => hk (key.mp h))]; exact Nat.cast_zero

/-- A gathered row that belongs to a token is the token's row. -/
theorem gathered_apply (hv : ∀ t : Fin 2048, expert v t.val < 128) (x : FVec Ideal S2048x512 .bf16) (b : ℕ) (hb : b < 16) (s : Fin 128) (d : Fin 512)
    (t : Fin 2048) (ht : At v t.val (128 * b + s.val)) :
    gathered (F := Ideal) (oneHot (gslOf Ideal v) (BitVec.ofNat 32 b)) x (ix2 s d) = x (ix2 t d) := by
  have h : gathered (F := Ideal) (oneHot (gslOf Ideal v) (BitVec.ofNat 32 b)) x (ix2 s d)
      = ∑ u : Fin 2048, (oneHot (F := Ideal) (gslOf Ideal v) (BitVec.ofNat 32 b) (ix2 u s) : EReal) * x (ix2 u d) := by
    pointwise [gathered]
  rw [h, Finset.sum_eq_single t]
  · rw [oneHot_apply v hv b hb, if_pos ht, one_mul]
  · intro u _ hu
    rw [oneHot_apply v hv b hb, if_neg (fun hc => hu (At_inj v hv u t _ hc ht)), zero_mul]
  · intro hc; exact absurd (Finset.mem_univ _) hc

theorem placed_apply (hv : ∀ t : Fin 2048, expert v t.val < 128) (blk : FVec Ideal S128x512 .bf16) (b : ℕ) (hb : b < 16) (t : Fin 2048) (f : Fin 512) :
    placed (F := Ideal) (oneHot (gslOf Ideal v) (BitVec.ofNat 32 b)) blk (ix2 t f)
      = ∑ s : Fin 128, if At v t.val (128 * b + s.val) then (blk (ix2 s f) : EReal) else 0 := by
  have h : placed (F := Ideal) (oneHot (gslOf Ideal v) (BitVec.ofNat 32 b)) blk (ix2 t f)
      = ∑ s : Fin 128, (oneHot (F := Ideal) (gslOf Ideal v) (BitVec.ofNat 32 b) (ix2 t s) : EReal) * blk (ix2 s f) := by
    pointwise [placed]
  rw [h]
  refine Finset.sum_congr rfl fun s _ => ?_
  rw [oneHot_apply v hv b hb, ite_mul, one_mul, zero_mul]

theorem expertRows_apply (xg : FVec Ideal S128x512 .f32) (le : Fin 8) (w : FVec Ideal S1x512x1024 .bf16) (r : Fin 16) (f : Fin 1024) :
    expertRows (F := Ideal) xg le w (ix2 r f)
      = ∑ d : Fin 512, (xg (ix2 ⟨16 * le.val + r.val, by omega⟩ d) : EReal) * w (ix3 0 d f) := by
  pointwise [expertRows]

theorem added_apply (gsl : IVec S2048x1 32) (kw : BitVec 32) (acc : FVec Ideal S2048x512 .bf16) (blk : FVec Ideal S128x512 .bf16) (j : S2048x512.Idx) :
    added (F := Ideal) gsl kw acc blk j = (acc j : EReal) + placed (F := Ideal) (oneHot gsl kw) blk j := by
  pointwise [added]

/-- The row of one slot, over all the blocks. -/
theorem sum_slots (g : ℕ → EReal) (t : Fin 2048) :
    (∑ b : Fin 16, ∑ s : Fin 128, if At v t.val (128 * b.val + s.val) then g (128 * b.val + s.val) else 0)
      = if before v t.val < 12 then g (slotN v t.val) else 0 := by
  by_cases hk : before v t.val < 12
  · have hl := slotN_lt v t.val hk
    rw [if_pos hk, Finset.sum_eq_single (⟨slotN v t.val / 128, by omega⟩ : Fin 16), Finset.sum_eq_single (⟨slotN v t.val % 128, by omega⟩ : Fin 128)]
    · have e : 128 * (slotN v t.val / 128) + slotN v t.val % 128 = slotN v t.val := by omega
      show (if At v t.val (128 * (slotN v t.val / 128) + slotN v t.val % 128) then g (128 * (slotN v t.val / 128) + slotN v t.val % 128) else 0) = _
      rw [e, if_pos ⟨hk, rfl⟩]
    · intro s _ hs
      refine if_neg fun hc => hs (Fin.ext ?_)
      have h2 : slotN v t.val = 128 * (slotN v t.val / 128) + s.val := hc.2
      show s.val = slotN v t.val % 128
      omega
    · intro hc; exact absurd (Finset.mem_univ _) hc
    · intro b _ hb
      refine Finset.sum_eq_zero fun s _ => if_neg fun hc => hb (Fin.ext ?_)
      have h2 := hc.2
      show b.val = slotN v t.val / 128
      omega
    · intro hc; exact absurd (Finset.mem_univ _) hc
  · rw [if_neg hk]
    exact Finset.sum_eq_zero fun b _ => Finset.sum_eq_zero fun s _ => if_neg fun hc => hk hc.1

/-! ## The words of the positions -/

theorem posWord_eq : ∀ c : Dev nD, posWord c = BitVec.ofNat 32 (pos c).val := by decide +kernel
theorem loWordN_eq : ∀ (c : Dev nD) (n : Fin 15), loWordN (posWord c) n.val = BitVec.ofNat 32 (lb c (n.val + 1)).val := by decide +kernel
theorem hiWordN_eq : ∀ (c : Dev nD) (n : Fin 15), hiWordN (posWord c) n.val = BitVec.ofNat 32 (hb c (n.val + 1)).val := by decide +kernel

/-! ## The gather buffer and the result -/

variable (m : (ℓ : Loc nD τ sig) → Buf (Elt Ideal) ℓ)

theorem piece_apply (b : Fin 16) (h : Fin 2) (f : Wide Ideal) (s : Fin 128) (k : Fin 512) :
    pieceV b h f (ix2 s k) = f (ix2 ⟨128 * b.val + s.val, by omega⟩ ⟨512 * h.val + k.val, by omega⟩) := by
  refine congrArg f (funext fun a => Fin.ext ?_)
  refine (unit_emb (off := ![128 * b.val, 512 * h.val]) (size := S128x512.size) (inb := piece_inb b h) (ix2 s k) a).trans ?_
  fin_cases a <;> rfl

theorem sum_range_pos (φ : Fin 16 → EReal) (p : ℕ → Fin 16) (hp : Function.Bijective fun n : Fin 16 => p n.val) :
    (∑ n ∈ Finset.range 16, φ (p n)) = ∑ b : Fin 16, φ b := by
  rw [← Fin.sum_univ_eq_sum_range (fun n => φ (p n)) 16]
  exact Fintype.sum_bijective _ hp _ _ fun _ => rfl

/-- What block `b` adds at token `t`, column `f` of half `h`. -/
def share (c : Dev nD) (h : Fin 2) (t : Fin 2048) (f : Fin 512) (b : Fin 16) : EReal :=
  placed (F := Ideal) (oneHot (gslAt m c) (BitVec.ofNat 32 b.val)) (pieceV b h (full m)) (ix2 t f)

theorem accLo_sum (c : Dev nD) (t : Fin 2048) (f : Fin 512) (n : ℕ) (hn : n ≤ 15) :
    accLo m c n (ix2 t f) = ∑ k ∈ Finset.range (n + 1), share m c 0 t f (lb c k) := by
  induction n with
  | zero =>
    rw [Finset.sum_range_one, lb_zero, share, ← posWord_eq]; rfl
  | succ n ih =>
    rw [Finset.sum_range_succ, ← ih (by omega)]
    refine (added_apply _ _ _ _ _).trans ?_
    rw [loWordN_eq c ⟨n, by omega⟩]; rfl

theorem accHi_sum (c : Dev nD) (t : Fin 2048) (f : Fin 512) (n : ℕ) (hn : n ≤ 15) :
    accHi m c n (ix2 t f) = ∑ k ∈ Finset.range (n + 1), share m c 1 t f (hb c k) := by
  induction n with
  | zero =>
    rw [Finset.sum_range_one, hb_zero, share, ← posWord_eq]; rfl
  | succ n ih =>
    rw [Finset.sum_range_succ, ← ih (by omega)]
    refine (added_apply _ _ _ _ _).trans ?_
    rw [hiWordN_eq c ⟨n, by omega⟩]; rfl

/-- Row `r` of the gather buffer, zero past its end. -/
def fullRow (f : Fin 1024) (r : ℕ) : EReal := if h : r < 2048 then full m (ix2 ⟨r, h⟩ f) else 0

theorem share_sum (c : Dev nD) (hv : ∀ t : Fin 2048, expert (ristg m c) t.val < 128) (h : Fin 2) (t : Fin 2048) (f : Fin 512) :
    (∑ b : Fin 16, share m c h t f b)
      = if before (ristg m c) t.val < 12 then fullRow m ⟨512 * h.val + f.val, by omega⟩ (slotN (ristg m c) t.val) else 0 := by
  rw [← sum_slots (ristg m c) (fullRow m ⟨512 * h.val + f.val, by omega⟩) t]
  refine Finset.sum_congr rfl fun b _ => ?_
  refine (placed_apply (ristg m c) hv _ b.val b.isLt t f).trans ?_
  refine Finset.sum_congr rfl fun s _ => ?_
  rw [piece_apply, fullRow, dif_pos (by omega)]

theorem out_apply (c : Dev nD) (hv : ∀ t : Fin 2048, expert (ristg m c) t.val < 128) (t : Fin 2048) (f : Fin 1024) :
    outAt m c (ix2 t f) = if before (ristg m c) t.val < 12 then fullRow m f (slotN (ristg m c) t.val) else 0 := by
  unfold outAt halves
  by_cases h : f.val < 512
  · refine (dif_pos (show ((ix2 t f : S2048x1024.Idx) 1).val < 512 from h)).trans ?_
    refine (congrArg (accLo m c 15) (pair_ix2 (a := 2048) (b := 512) t ⟨f.val, h⟩)).trans ?_
    refine (accLo_sum m c t ⟨f.val, h⟩ 15 (le_refl _)).trans ?_
    rw [sum_range_pos (share m c 0 t ⟨f.val, h⟩) (lb c) (lb_bij c), share_sum m c hv]
    congr 2
    exact Fin.ext (Nat.zero_add _)
  · refine (dif_neg (show ¬ ((ix2 t f : S2048x1024.Idx) 1).val < 512 from h)).trans ?_
    refine (congrArg (accHi m c 15) (pair_ix2 (a := 2048) (b := 512) t ⟨f.val - 512, by omega⟩)).trans ?_
    refine (accHi_sum m c t ⟨f.val - 512, by omega⟩ 15 (le_refl _)).trans ?_
    rw [sum_range_pos (share m c 1 t ⟨f.val - 512, by omega⟩) (hb c) (hb_bij c), share_sum m c hv]
    congr 2
    exact Fin.ext (show 512 * 1 + (f.val - 512) = f.val by omega)

theorem wAt_apply (c : Dev nD) (le : Fin 8) (d : Fin 512) (f : Fin 1024) : wAt m c le (ix3 0 d f) = wstg m c (ix3 le d f) := by
  refine congrArg (wstg m c) (funext fun a => Fin.ext ?_)
  show (![le.val, 0, 0] : Fin 3 → ℕ) a + 1 * ((ix3 0 d f : S1x512x1024.Idx) a).val = _
  fin_cases a
  · exact Nat.add_zero _
  · show 0 + 1 * d.val = d.val; omega
  · show 0 + 1 * f.val = f.val; omega

/-- The row of the gather buffer at a kept token's slot, where all devices hold the same tokens and experts: the token's row
    times its expert's weights, held by the device `expert / 8`. -/
theorem full_at (X : FVec Ideal S2048x512 .bf16) (hX : ∀ c, xstg m c = X) (hR : ∀ c, ristg m c = v)
    (hv : ∀ t : Fin 2048, expert v t.val < 128) (t : Fin 2048) (hk : before v t.val < 12) (f : Fin 1024) :
    fullRow m f (slotN v t.val)
      = ∑ d : Fin 512, (X (ix2 t d) : EReal) * wstg m ⟨expert v t.val / 8, by have := hv t; show _ < 16; omega⟩ (ix3 ⟨expert v t.val % 8, by omega⟩ d f) := by
  have hl := slotN_lt v t.val hk
  have hb := slotN_block v t.val hk
  have he := slotN_expert v t.val hk
  have hx := hv t
  rw [fullRow, dif_pos hl]
  unfold full
  refine (congrArg (rowsAt m _ _) (pair_ix2 (a := 16) (b := 1024) ⟨slotN v t.val % 16, by omega⟩ f)).trans ?_
  have hp : pos (⟨expert v t.val / 8, by show _ < 16; omega⟩ : Dev nD) = ⟨slotN v t.val / 128, by omega⟩ := by
    refine Fin.ext (((posN_eq _).symm.trans (congrArg posN (Fin.ext ?_))).trans hb.symm)
    show expert v t.val / 8 = expert v t.val / 8 % 16
    omega
  have h1 : ringOrder (⟨slotN v t.val / 128, by omega⟩ : Fin 16) = (⟨expert v t.val / 8, by show _ < 16; omega⟩ : Dev nD) := by
    rw [← hp, ringOrder_pos]
  have h2 : (⟨slotN v t.val % 128 / 16, by omega⟩ : Fin 8) = ⟨expert v t.val % 8, by omega⟩ := Fin.ext he
  show rowsAt m (ringOrder (⟨slotN v t.val / 128, by omega⟩ : Fin 16)) (⟨slotN v t.val % 128 / 16, by omega⟩ : Fin 8) (ix2 ⟨slotN v t.val % 16, by omega⟩ f) = _
  rw [h1, h2]
  refine (expertRows_apply _ _ _ _ _).trans ?_
  refine Finset.sum_congr rfl fun d _ => ?_
  rw [wAt_apply]
  refine congrArg (fun y : EReal => y * _) ?_
  unfold xgAt gslAt
  rw [hX, hR, posWord_eq]
  refine gathered_apply v hv X _ (pos _).isLt _ d t ⟨hk, ?_⟩
  rw [hp]
  show slotN v t.val = 128 * (slotN v t.val / 128) + (16 * (expert v t.val % 8) + slotN v t.val % 16)
  omega

/-- The result at a token and a column. -/
theorem outAt_eq (X : FVec Ideal S2048x512 .bf16) (hX : ∀ c, xstg m c = X) (hR : ∀ c, ristg m c = v)
    (hv : ∀ t : Fin 2048, expert v t.val < 128) (c : Dev nD) (t : Fin 2048) (f : Fin 1024) :
    outAt m c (ix2 t f) = if before v t.val < 12 then
        ∑ d : Fin 512, (X (ix2 t d) : EReal) * wstg m ⟨expert v t.val / 8, by have := hv t; show _ < 16; omega⟩ (ix3 ⟨expert v t.val % 8, by omega⟩ d f)
      else 0 := by
  rw [out_apply m c (by rw [hR]; exact hv), hR]
  by_cases hk : before v t.val < 12
  · rw [if_pos hk, if_pos hk, full_at v m X hX hR hv t hk f]
  · rw [if_neg hk, if_neg hk]

end Cert.Proof.Ring

end
-- ==== Proof.RefValue.lean ====
/-
The reference, read at a token and a column.
-/
module

public import proofs.«01_k».proof.Proof.Count
public import proofs.«01_k».proof.ReferenceIdeal
public import proofs.«01_k».proof.Proof.Gen.ReferenceIdeal
public import Idealize.ShloMosaic.Lib.IndicatorCount

@[expose] public section

set_option maxRecDepth 16384

noncomputable section

namespace Cert.Proof.Ring

open Cert.ReferenceIdeal Cert.ReferenceIdeal.Gen
open Idealize.ShloMosaic

/-- The reference's result as a term over its arguments. -/
def refOut (x : FVec Ideal S2048x512 .bf16) (ri : IVec S2048x1 32) (w : FVec Ideal S128x512x1024 .bf16) : FVec Ideal S2048x1024 .bf16 :=
  truncf .bf16 (select (broadcastInDim S2048x1024 ![0, 1] bcast_S2048x1_S2048x1024_0_1 (broadcastInDim S2048x1 ![0] bcast_S2048_S2048x1_0 (cmpi .slt (Host.reduce IntOp.addi (extui 32 (andi (cmpi .eq (broadcastInDim S2048x2048 ![0, 1] bcast_S1x2048_S2048x2048_0_1 (broadcastInDim S1x2048 ![1] bcast_S2048_S1x2048_1 (shapeCast _ ri shapeCasts_S2048x1_S2048))) (broadcastInDim S2048x2048 ![0, 1] bcast_S2048x1_S2048x2048_0_1 (broadcastInDim S2048x1 ![0] bcast_S2048_S2048x1_0 (shapeCast _ ri shapeCasts_S2048x1_S2048)))) (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) natLt_1_32) (constantI S_ 32 0#32) reducesTo_S2048x2048_S2048_d1 h_S_) (broadcastInDim S2048 ![] bcast_S_S2048 (constantI S_ 32 12#32))))) (Host.dotGeneral dot_S2048x512_S2048x512x1024_S2048x1024_1_1_n_2_0_0 none (extf .f32 x bitsLt_bf16_f32) (Host.gather gather_S128x512x1024_S2048x1_S2048x512x1024_12_0_n_n_0_1_15121024 (extf .f32 w bitsLt_bf16_f32) (broadcastInDim S2048x1 ![0] bcast_S2048_S2048x1_0 (select (cmpi .slt (shapeCast _ ri shapeCasts_S2048x1_S2048) (broadcastInDim S2048 ![] bcast_S_S2048 (constantI S_ 32 0#32))) (addi (shapeCast _ ri shapeCasts_S2048x1_S2048) (broadcastInDim S2048 ![] bcast_S_S2048 (constantI S_ 32 128#32))) (shapeCast _ ri shapeCasts_S2048x1_S2048))))) (broadcastInDim S2048x1024 ![] bcast_S_S2048x1024 (id (constant S_ .f32 0x00000000#32)))) bitsLt_bf16_f32

/-- A token's row of the gathered weights: where the index word `idx (t, 0)` is below 128, entry `(t, d, f)` of the result is the table's entry
    at that word, `d` and `f`. -/
theorem gather_apply (x : FVec Ideal S128x512x1024 .f32) (idx : IVec S2048x1 32) (t : Fin 2048) (d : Fin 512) (f : Fin 1024)
    (h : (idx (ix2 t 0)).toNat < 128) :
    Host.gather gather_S128x512x1024_S2048x1_S2048x512x1024_12_0_n_n_0_1_15121024 x idx (ix3 t d f) = x (ix3 ⟨(idx (ix2 t 0)).toNat, h⟩ d f) := by
  have hi : (idx (ix2 t 0)).toInt.toNat = (idx (ix2 t 0)).toNat := by
    rw [BitVec.toInt_eq_toNat_of_lt (by omega)]; rfl
  unfold Host.gather
  refine congrArg x (funext fun a => Fin.ext ?_)
  show GatherDims.start _ (ix3 t d f) idx a + GatherDims.batchCoord _ (ix3 t d f) a + GatherDims.offCoord _ (ix3 t d f) a = _
  rw [GatherDims.batchCoord_eq_zero _ _ _ List.not_mem_nil, Nat.add_zero]
  match a with
  | ⟨0, _⟩ =>
    have hs : GatherDims.siIdx gather_S128x512x1024_S2048x1_S2048x512x1024_12_0_n_n_0_1_15121024 (ix3 t d f) ⟨0, by decide⟩ = ix2 t (0 : Fin 1) := by
      funext b; refine Fin.ext ?_
      match b with
      | ⟨0, _⟩ => rfl
      | ⟨1, _⟩ => rfl
    have e1 : GatherDims.start gather_S128x512x1024_S2048x1_S2048x512x1024_12_0_n_n_0_1_15121024 (ix3 t d f) idx (0 : Fin 3) = (idx (ix2 t 0)).toNat := by
      unfold GatherDims.start
      rw [dif_pos (show (0 : Fin 3) ∈ GatherDims.startIndexMap gather_S128x512x1024_S2048x1_S2048x512x1024_12_0_n_n_0_1_15121024 from by decide)]
      refine (congrArg (fun k => min (idx k).toInt.toNat 127) hs).trans ?_
      show min (idx (ix2 t 0)).toInt.toNat 127 = _
      rw [hi]; omega
    exact congrArg₂ (· + ·) e1 (GatherDims.offCoord_eq_zero _ _ _ (show (0 : Fin 3) ∉ GatherDims.sKept gather_S128x512x1024_S2048x1_S2048x512x1024_12_0_n_n_0_1_15121024 from by decide))
  | ⟨1, _⟩ =>
    have e1 : GatherDims.start gather_S128x512x1024_S2048x1_S2048x512x1024_12_0_n_n_0_1_15121024 (ix3 t d f) idx (1 : Fin 3) = 0 := by
      unfold GatherDims.start
      exact dif_neg (by decide)
    exact (congrArg (· + _) e1).trans (Nat.zero_add _)
  | ⟨2, _⟩ =>
    have e1 : GatherDims.start gather_S128x512x1024_S2048x1_S2048x512x1024_12_0_n_n_0_1_15121024 (ix3 t d f) idx (2 : Fin 3) = 0 := by
      unfold GatherDims.start
      exact dif_neg (by decide)
    exact (congrArg (· + _) e1).trans (Nat.zero_add _)

/-- The word for a small natural, read signed, is that natural. -/
theorem ofNat_toInt_small {n : ℕ} (h : n < 4096) : (BitVec.ofNat 32 n).toInt = n := by
  rw [BitVec.toInt_eq_toNat_of_lt (by rw [BitVec.toNat_ofNat]; omega), BitVec.toNat_ofNat, Nat.mod_eq_of_lt (by omega)]

/-- How many earlier tokens picked token `t`'s expert, as the reference's word counts them. -/
theorem count_word (ri : IVec S2048x1 32) (t : Fin 2048) :
    (Finset.fold IntOp.addi (0#32)
      (fun x : Fin 2048 => BitVec.setWidth 32
        (IntOp.andi (IntOp.cmpi CmpIPredicate.eq (ri (ix2 x 0)) (ri (ix2 t 0)))
          (IntOp.cmpi CmpIPredicate.slt (BitVec.ofNat 32 x.val) (BitVec.ofNat 32 t.val)))) Finset.univ)
      = BitVec.ofNat 32 (before ri t.val) := by
  rw [IndicatorCount.fold_addi_setWidth_eq_card]
  congr 1
  unfold before
  rw [Nat.count_eq_card_filter_range]
  refine Finset.card_bij (fun x _ => x.val) ?_ (fun a _ b _ e => Fin.ext e) ?_
  · intro x hx
    have hx := (Finset.mem_filter.1 hx).2
    rw [WordCmp.cmpi_eq_eq, WordCmp.cmpi_slt_eq, ofNat_toInt_small (by omega), ofNat_toInt_small (by omega)] at hx
    have hx' : ri (ix2 x 0) = ri (ix2 t 0) ∧ x.val < t.val := by
      have hd : ∀ b c : Bool, IntOp.andi (BitVec.ofBool b) (BitVec.ofBool c) = 1#1 → b = true ∧ c = true := by decide
      have := hd _ _ hx
      exact ⟨of_decide_eq_true this.1, by exact_mod_cast of_decide_eq_true this.2⟩
    rw [Finset.mem_filter, Finset.mem_range, expert_val, expert_val]
    exact ⟨hx'.2, congrArg BitVec.toNat hx'.1⟩
  · intro k hk
    rw [Finset.mem_filter, Finset.mem_range] at hk
    refine ⟨⟨k, by omega⟩, Finset.mem_filter.2 ⟨Finset.mem_univ _, ?_⟩, rfl⟩
    have h2 := hk.2
    rw [expert_val ri t, show expert ri k = (ri (ix2 (⟨k, by omega⟩ : Fin 2048) 0)).toNat from expert_val ri ⟨k, by omega⟩] at h2
    rw [WordCmp.cmpi_eq_eq, WordCmp.cmpi_slt_eq, ofNat_toInt_small (by show k < 4096; omega), ofNat_toInt_small (by omega)]
    rw [decide_eq_true (BitVec.eq_of_toNat_eq h2), decide_eq_true (by exact_mod_cast hk.1)]
    rfl

/-- The reference at token `t` and column `f`: the token's row times its expert's column while its expert has room, and zero after. -/
theorem refOut_apply (x : FVec Ideal S2048x512 .bf16) (ri : IVec S2048x1 32) (w : FVec Ideal S128x512x1024 .bf16)
    (hv : ∀ t : Fin 2048, expert ri t.val < 128) (t : Fin 2048) (f : Fin 1024) :
    refOut x ri w (ix2 t f) = if before ri t.val < 12 then ∑ d : Fin 512, (x (ix2 t d) : EReal) * w (ix3 ⟨expert ri t.val, hv t⟩ d f) else 0 := by
  have ht : (ri (ix2 t 0)).toNat < 128 := by rw [← expert_val]; exact hv t
  pointwise [refOut]
  have hb : before ri t.val ≤ t.val := Nat.count_le ..
  rw [count_word, WordCmp.cmpi_slt_eq, select_bit, ofNat_toInt_small (by omega)]
  have h12 : ((before ri t.val : ℤ) < (12#32).toInt) = (before ri t.val < 12) := propext (by
    rw [show (12#32).toInt = ((12 : ℕ) : ℤ) from rfl]; exact Nat.cast_lt)
  simp only [h12]
  refine if_congr Iff.rfl (Finset.sum_congr rfl fun d _ => ?_) ?_
  · refine congrArg (fun q : EReal => (x (ix2 t d) : EReal) * q) ?_
    have key : ∀ idx : IVec S2048x1 32, idx (ix2 t 0) = ri (ix2 t 0) →
        Host.gather gather_S128x512x1024_S2048x1_S2048x512x1024_12_0_n_n_0_1_15121024 (extf FTy.f32 w bitsLt_bf16_f32) idx (ix3 t d f)
          = w (ix3 ⟨expert ri t.val, hv t⟩ d f) := fun idx hidx => by
      refine (gather_apply _ idx t d f (by rw [hidx]; exact ht)).trans ?_
      refine congrArg (fun e => w (ix3 e d f)) (Fin.ext ?_)
      show (idx (ix2 t 0)).toNat = expert ri t.val
      rw [hidx, expert_val]
    refine key _ ?_
    pointwise
    rw [WordCmp.cmpi_slt_eq, select_bit, if_neg]
    rw [BitVec.toInt_eq_toNat_of_lt (by omega)]
    show ¬ ((ri (ix2 t 0)).toNat : ℤ) < 0
    omega
  · exact Ideal.ofBits_zero .f32

end Cert.Proof.Ring

end
-- ==== Proof.Value.lean ====
/-
The value: on every device the kernel's result is the reference's.
-/
module

public import proofs.«01_k».proof.Proof.Blocks
public import proofs.«01_k».proof.Proof.Frames
public import proofs.«01_k».proof.Proof.RefValue
public import Idealize.ShloMosaic.Lib.LayoutAt

@[expose] public section

set_option maxRecDepth 16384

noncomputable section

namespace Cert.Proof.Ring

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-! ## The staged blocks are the whole arrays -/

theorem xstg_eq (c : Dev nD) : xstg m c = m ((c.tc : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

theorem ristg_eq (c : Dev nD) : ristg m c = m ((c.tc : Thread nD τ).loc main_arg2) := by
  have hz : (fun a => (win0_1.index (0 : Fin 1)) a * main_arg2.ty.shape.size a) = fun _ => 0 := funext fun a => by fin_cases a <;> decide
  exact Memref.read_access_unit_zero (Elt F) main_arg2 hz (fun a => by fin_cases a <;> decide) _

theorem wstg_eq (c : Dev nD) : wstg m c = m ((c.tc : Thread nD τ).loc main_arg3) := by
  have hz : (fun a => (win0_2.index (0 : Fin 1)) a * main_arg3.ty.shape.size a) = fun _ => 0 := funext fun a => by fin_cases a <;> decide
  exact Memref.read_access_unit_zero (Elt F) main_arg3 hz (fun a => by fin_cases a <;> decide) _

/-- The result array ends holding what the body leaves in its staging buffer. -/
theorem finalA_o (c : Dev nD) : finalA m ρ c (3 : Fin 4) = outAt m c := by
  have hr : (win0_3.blk (0 : Fin 1)).view.read (Elt F) (finalA m ρ c (3 : Fin 4)) = outAt m c := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from by decide, if_pos rfl]
    exact View.read_write_univ _ _
  have hz : (fun a => (win0_3.index (0 : Fin 1)) a * main_v1.ty.shape.size a) = fun _ => 0 := funext fun a => by fin_cases a <;> decide
  exact (Memref.read_access_unit_zero (Elt F) main_v1 hz (fun a => by fin_cases a <;> decide) _).symm.trans hr

/-! ## The two results -/

/-- A device's weights are its block of the reference's: expert `e` is the device `e / 8`'s expert `e % 8`. -/
theorem block_w (w : FVec Ideal ⟨3, ![128, 512, 1024]⟩ .bf16) (e : ℕ) (he : e < 128) (d : Fin 512) (f : Fin 1024) :
    (Layout.block ⟨3, ![8, 512, 1024]⟩ ⟨3, ![128, 512, 1024]⟩ 0 16 (⟨e / 8, by omega⟩ : Fin 16) w) (ix3 (⟨e % 8, by omega⟩ : Fin 8) d f)
      = w (ix3 ⟨e, he⟩ d f) := by
  shard_ext

/-- Where every token's expert is one of the 128, a device's result is the reference's. -/
theorem outAt_ref (m : (ℓ : Loc nD τ sig) → Buf (Elt Ideal) ℓ) (x : FVec Ideal S2048x512 .bf16) (ri : IVec S2048x1 32)
    (w : FVec Ideal ⟨3, ![128, 512, 1024]⟩ .bf16) (hv : ∀ t : Fin 2048, expert ri t.val < 128)
    (hX : ∀ c : Dev nD, m ((c.tc : Thread nD τ).loc main_arg0) = x) (hR : ∀ c : Dev nD, m ((c.tc : Thread nD τ).loc main_arg2) = ri)
    (hW : ∀ c : Dev nD, m ((c.tc : Thread nD τ).loc main_arg3) = Layout.block ⟨3, ![8, 512, 1024]⟩ ⟨3, ![128, 512, 1024]⟩ 0 16 c w) (c : Dev nD) :
    outAt m c = refOut x ri w := by
  funext i
  obtain ⟨t, f, rfl⟩ : ∃ (t : Fin 2048) (f : Fin 1024), i = ix2 t f := ⟨i 0, i 1, by funext a; fin_cases a <;> rfl⟩
  refine (outAt_eq ri m x (fun c => (xstg_eq m c).trans (hX c)) (fun c => (ristg_eq m c).trans (hR c)) hv c t f).trans ?_
  refine Eq.trans ?_ (refOut_apply x ri w hv t f).symm
  refine if_congr Iff.rfl (Finset.sum_congr (M := EReal) rfl fun d _ => ?_) rfl
  refine congrArg (fun q : EReal => (x (ix2 t d) : EReal) * q) ?_
  rw [wstg_eq, hW]
  exact block_w w _ (hv t) d f

end Cert.Proof.Ring

namespace Cert.Proof

open Cert.KernelIdeal Cert.KernelIdeal.Gen
open Idealize.ShloMosaic Idealize.ShloMosaic.TcCoe Idealize.SL.Sem

theorem preFacts : Cert.Pre_routed_KernelIdeal.Facts := ⟨by decide⟩
theorem preFactsRef : Cert.Pre_routed_ReferenceIdeal.Facts := ⟨by decide⟩

/-- The precondition says what it is named for. -/
theorem routed_lt (x : FVec Ideal S2048x512 .bf16) (r : FVec Ideal S512x128 .bf16) (ri : IVec S2048x1 32) (w : FVec Ideal S8x512x1024 .bf16)
    (h : @Cert.Pre_routed_KernelIdeal.fn preFacts Ideal _ x r ri w = fun _ => 1#1) (t : Fin 2048) : Ring.expert ri t.val < 128 := by
  have ht := congrFun h (ix2 t 0)
  have hd : ∀ b c : Bool, IntOp.andi (BitVec.ofBool b) (BitVec.ofBool c) = 1#1 → b = true ∧ c = true := by decide
  have h2 : IntOp.andi (IntOp.cmpi .sge (ri (ix2 t 0)) 0#32) (IntOp.cmpi .slt (ri (ix2 t 0)) 128#32) = 1#1 := ht
  rw [WordCmp.cmpi_sge_eq, WordCmp.cmpi_slt_eq] at h2
  have h3 := hd _ _ h2
  have h4 := of_decide_eq_true h3.1
  have h5 := of_decide_eq_true h3.2
  rw [Ring.expert_val]
  rw [show (0#32).toInt = 0 from rfl] at h4
  rw [show (128#32).toInt = 128 from rfl] at h5
  have := BitVec.toInt_eq_toNat_cond (ri (ix2 t 0))
  split at this <;> omega

theorem algebraic : Cert.algebraic_KernelIdeal_ReferenceIdeal_pre_routed_KernelIdeal (hPre_routed_KernelIdeal := preFacts) := by
  intro m g m' g' hpre hargs
  have hR := fun c => (hargs c).2.2.1
  have hv : ∀ t : Fin 2048, Ring.expert (m' (((0 : Dev Cert.ReferenceIdeal.nD).tc : Thread Cert.ReferenceIdeal.nD Cert.ReferenceIdeal.τ).loc Cert.ReferenceIdeal.main_arg2)) t.val < 128 := fun t => by
    have h := routed_lt _ _ _ _ (hpre 0) t
    rw [hR 0] at h
    exact h
  have hout := Ring.outAt_ref m _ _ _ hv (fun c => (hargs c).1) hR (fun c => (hargs c).2.2.2)
  refine ⟨_, (θ_run defs _ _).mono (fun r h c => ?_) (Ring.run_main (F := Ideal) m g),
    (θ_run Cert.ReferenceIdeal.defs _ _).mono (fun r h => h 0) (Cert.ReferenceIdeal.Value.run (F := Ideal) m' g')⟩
  exact ⟨((h.1 c).1 (3 : Fin 4)).trans ((Ring.finalA_o m g c).trans (hout c)), kept_of_ends m g h.1 c⟩

end Cert.Proof

end
-- ==== Proof.lean ====
/- The certificate: the frames, that the idealization is the kernel's own text, and that its result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, preFacts, preFactsRef,
  frame_kernel, frame_kernelIdeal, fun m g _ => frame_kernelIdeal m g trivial, frame_referenceIdeal,
  fun m g _ => frame_referenceIdeal m g trivial, trivial, algebraic⟩

end Cert.Proof

end
